-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x524288 : Shape := ⟨2, ![16, 524288]⟩
abbrev S64800 : Shape := ⟨1, ![64800]⟩
abbrev S8388608 : Shape := ⟨1, ![8388608]⟩
abbrev S2073600 : Shape := ⟨1, ![2073600]⟩
abbrev S2x128 : Shape := ⟨2, ![2, 128]⟩
abbrev S_ : Shape := ⟨0, ![]⟩
abbrev S16 : Shape := ⟨1, ![16]⟩
abbrev S1x128 : Shape := ⟨2, ![1, 128]⟩
abbrev S128 : Shape := ⟨1, ![128]⟩
abbrev S1x16 : Shape := ⟨2, ![1, 16]⟩
abbrev S16x2x64800 : Shape := ⟨3, ![16, 2, 64800]⟩
abbrev S1x64800 : Shape := ⟨2, ![1, 64800]⟩
abbrev S16x3x64800 : Shape := ⟨3, ![16, 3, 64800]⟩
abbrev S1x2x64800 : Shape := ⟨3, ![1, 2, 64800]⟩
abbrev S1x3x64800 : Shape := ⟨3, ![1, 3, 64800]⟩
abbrev S1x1x64800 : Shape := ⟨3, ![1, 1, 64800]⟩
abbrev S16x3x180x360 : Shape := ⟨4, ![16, 3, 180, 360]⟩

abbrev nBuf : Table → Nat
  | .hbm => 16
  | .local .tc .vmem => 8
  | .local .scVector .vmem => 5
  | _ => 0

abbrev bufTy : (tb : Table) → Fin (nBuf tb) → BufTy
  | .hbm, ⟨0, _⟩ => ⟨S16x524288, .f32⟩
  | .hbm, ⟨1, _⟩ => ⟨S16x524288, .f32⟩
  | .hbm, ⟨2, _⟩ => ⟨S16x524288, .f32⟩
  | .hbm, ⟨3, _⟩ => ⟨S64800, .f32⟩
  | .hbm, ⟨4, _⟩ => ⟨S64800, .f32⟩
  | .hbm, ⟨5, _⟩ => ⟨S8388608, .f32⟩
  | .hbm, ⟨6, _⟩ => ⟨S8388608, .f32⟩
  | .hbm, ⟨7, _⟩ => ⟨S8388608, .f32⟩
  | .hbm, ⟨8, _⟩ => ⟨S2073600, .f32⟩
  | .hbm, ⟨9, _⟩ => ⟨S2073600, .f32⟩
  | .hbm, ⟨10, _⟩ => ⟨S16x2x64800, .f32⟩
  | .hbm, ⟨11, _⟩ => ⟨S16x2x64800, .f32⟩
  | .hbm, ⟨12, _⟩ => ⟨S1x64800, .f32⟩
  | .hbm, ⟨13, _⟩ => ⟨S1x64800, .f32⟩
  | .hbm, ⟨14, _⟩ => ⟨S16x3x64800, .f32⟩
  | .hbm, ⟨15, _⟩ => ⟨S16x3x180x360, .f32⟩
  | .local .tc .vmem, ⟨0, _⟩ => ⟨S1x2x64800, .f32⟩
  | .local .tc .vmem, ⟨1, _⟩ => ⟨S1x2x64800, .f32⟩
  | .local .tc .vmem, ⟨2, _⟩ => ⟨S1x2x64800, .f32⟩
  | .local .tc .vmem, ⟨3, _⟩ => ⟨S1x2x64800, .f32⟩
  | .local .tc .vmem, ⟨4, _⟩ => ⟨S1x64800, .f32⟩
  | .local .tc .vmem, ⟨5, _⟩ => ⟨S1x64800, .f32⟩
  | .local .tc .vmem, ⟨6, _⟩ => ⟨S1x3x64800, .f32⟩
  | .local .tc .vmem, ⟨7, _⟩ => ⟨S1x3x64800, .f32⟩
  | .local .scVector .vmem, ⟨0, _⟩ => ⟨S2x128, .f32⟩
  | .local .scVector .vmem, ⟨1, _⟩ => ⟨S2x128, .f32⟩
  | .local .scVector .vmem, ⟨2, _⟩ => ⟨S2x128, .f32⟩
  | .local .scVector .vmem, ⟨3, _⟩ => ⟨S64800, .f32⟩
  | .local .scVector .vmem, ⟨4, _⟩ => ⟨S64800, .f32⟩
  | _, _ => ⟨S16x524288, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev main_v3_0_scv : Ref sig .scVector := ⟨.hbm, 8, rfl⟩
abbrev main_v3_1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4050_i32 : BitVec 32 := 4050#32
  let v4 : BitVec 32 := Scalar.addi c0_i32_0 c4050_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg14 : BitVec 32 := Scf.iv c0_i32_0 c1_i32 k0_t1
  let c16_i32 : BitVec 32 := 16#32
  let v49 : BitVec 32 := Scalar.muli arg14 c16_i32
  let v50 : Index := Scalar.indexCast v49
  ![v50.toNat]
def k0_off2 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let v7 : BitVec 32 := Scalar.addi v2 c0_i32_3
  ![v7.toNat]
@[reducible] def k0_t2_loop : Scf.Loop 32 :=
  let c0_i32_23 : BitVec 32 := 0#32
  let c1024_i32 : BitVec 32 := 1024#32
  let v45 : BitVec 32 := Scalar.addi c0_i32_23 c1024_i32
  let c1_i32_24 : BitVec 32 := 1#32
  ⟨c0_i32_23, v45, c1_i32_24⟩
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  ![v2.toNat]

def k0_chk1 (v94 : IVec S16 32) : Prop :=
  (∀ a x, ((![v94] : Fin 1 → IVec S16 32) a x).toNat < S64800.size a) ∧
  (∀ a x, ((![v94] : Fin 1 → IVec S16 32) a x).toNat < S64800.size a)
theorem k0_idx1_inb : ∀ (v94 : IVec S16 32) (k0_hw1 : k0_chk1 v94), ∀ a x, ((![v94] : Fin 1 → IVec S16 32) a x).toNat < S64800.size a := fun v94 k0_hw1 => k0_hw1.1
theorem k0_idx2_inb : ∀ (v94 : IVec S16 32) (k0_hw1 : k0_chk1 v94), ∀ a x, ((![v94] : Fin 1 → IVec S16 32) a x).toNat < S64800.size a := fun v94 k0_hw1 => k0_hw1.2

def k0_chk2 (v121 : IVec S16 32) : Prop :=
  (∀ a x, ((![v121] : Fin 1 → IVec S16 32) a x).toNat < S64800.size a) ∧
  (∀ a x, ((![v121] : Fin 1 → IVec S16 32) a x).toNat < S64800.size a)
theorem k0_idx3_inb : ∀ (v121 : IVec S16 32) (k0_hw2 : k0_chk2 v121), ∀ a x, ((![v121] : Fin 1 → IVec S16 32) a x).toNat < S64800.size a := fun v121 k0_hw2 => k0_hw2.1
theorem k0_idx4_inb : ∀ (v121 : IVec S16 32) (k0_hw2 : k0_chk2 v121), ∀ a x, ((![v121] : Fin 1 → IVec S16 32) a x).toNat < S64800.size a := fun v121 k0_hw2 => k0_hw2.2

def k0_chk3 (v148 : IVec S16 32) : Prop :=
  (∀ a x, ((![v148] : Fin 1 → IVec S16 32) a x).toNat < S64800.size a) ∧
  (∀ a x, ((![v148] : Fin 1 → IVec S16 32) a x).toNat < S64800.size a)
theorem k0_idx5_inb : ∀ (v148 : IVec S16 32) (k0_hw3 : k0_chk3 v148), ∀ a x, ((![v148] : Fin 1 → IVec S16 32) a x).toNat < S64800.size a := fun v148 k0_hw3 => k0_hw3.1
theorem k0_idx6_inb : ∀ (v148 : IVec S16 32) (k0_hw3 : k0_chk3 v148), ∀ a x, ((![v148] : Fin 1 → IVec S16 32) a x).toNat < S64800.size a := fun v148 k0_hw3 => k0_hw3.2

def k0_chk4 (v175 : IVec S16 32) : Prop :=
  (∀ a x, ((![v175] : Fin 1 → IVec S16 32) a x).toNat < S64800.size a) ∧
  (∀ a x, ((![v175] : Fin 1 → IVec S16 32) a x).toNat < S64800.size a)
theorem k0_idx7_inb : ∀ (v175 : IVec S16 32) (k0_hw4 : k0_chk4 v175), ∀ a x, ((![v175] : Fin 1 → IVec S16 32) a x).toNat < S64800.size a := fun v175 k0_hw4 => k0_hw4.1
theorem k0_idx8_inb : ∀ (v175 : IVec S16 32) (k0_hw4 : k0_chk4 v175), ∀ a x, ((![v175] : Fin 1 → IVec S16 32) a x).toNat < S64800.size a := fun v175 k0_hw4 => k0_hw4.2

def k0_chk5 (v202 : IVec S16 32) : Prop :=
  (∀ a x, ((![v202] : Fin 1 → IVec S16 32) a x).toNat < S64800.size a) ∧
  (∀ a x, ((![v202] : Fin 1 → IVec S16 32) a x).toNat < S64800.size a)
theorem k0_idx9_inb : ∀ (v202 : IVec S16 32) (k0_hw5 : k0_chk5 v202), ∀ a x, ((![v202] : Fin 1 → IVec S16 32) a x).toNat < S64800.size a := fun v202 k0_hw5 => k0_hw5.1
theorem k0_idx10_inb : ∀ (v202 : IVec S16 32) (k0_hw5 : k0_chk5 v202), ∀ a x, ((![v202] : Fin 1 → IVec S16 32) a x).toNat < S64800.size a := fun v202 k0_hw5 => k0_hw5.2

def k0_chk6 (v229 : IVec S16 32) : Prop :=
  (∀ a x, ((![v229] : Fin 1 → IVec S16 32) a x).toNat < S64800.size a) ∧
  (∀ a x, ((![v229] : Fin 1 → IVec S16 32) a x).toNat < S64800.size a)
theorem k0_idx11_inb : ∀ (v229 : IVec S16 32) (k0_hw6 : k0_chk6 v229), ∀ a x, ((![v229] : Fin 1 → IVec S16 32) a x).toNat < S64800.size a := fun v229 k0_hw6 => k0_hw6.1
theorem k0_idx12_inb : ∀ (v229 : IVec S16 32) (k0_hw6 : k0_chk6 v229), ∀ a x, ((![v229] : Fin 1 → IVec S16 32) a x).toNat < S64800.size a := fun v229 k0_hw6 => k0_hw6.2

def k0_chk7 (v256 : IVec S16 32) : Prop :=
  (∀ a x, ((![v256] : Fin 1 → IVec S16 32) a x).toNat < S64800.size a) ∧
  (∀ a x, ((![v256] : Fin 1 → IVec S16 32) a x).toNat < S64800.size a)
theorem k0_idx13_inb : ∀ (v256 : IVec S16 32) (k0_hw7 : k0_chk7 v256), ∀ a x, ((![v256] : Fin 1 → IVec S16 32) a x).toNat < S64800.size a := fun v256 k0_hw7 => k0_hw7.1
theorem k0_idx14_inb : ∀ (v256 : IVec S16 32) (k0_hw7 : k0_chk7 v256), ∀ a x, ((![v256] : Fin 1 → IVec S16 32) a x).toNat < S64800.size a := fun v256 k0_hw7 => k0_hw7.2

def k0_chk8 (v283 : IVec S16 32) : Prop :=
  (∀ a x, ((![v283] : Fin 1 → IVec S16 32) a x).toNat < S64800.size a) ∧
  (∀ a x, ((![v283] : Fin 1 → IVec S16 32) a x).toNat < S64800.size a)
theorem k0_idx15_inb : ∀ (v283 : IVec S16 32) (k0_hw8 : k0_chk8 v283), ∀ a x, ((![v283] : Fin 1 → IVec S16 32) a x).toNat < S64800.size a := fun v283 k0_hw8 => k0_hw8.1
theorem k0_idx16_inb : ∀ (v283 : IVec S16 32) (k0_hw8 : k0_chk8 v283), ∀ a x, ((![v283] : Fin 1 → IVec S16 32) a x).toNat < S64800.size a := fun v283 k0_hw8 => k0_hw8.2
def k0_cond1 (k0_t2 : Fin k0_t2_loop.trips) : BitVec 1 :=
  let c2_i32_27 : BitVec 32 := 2#32
  let c0_i32_23 : BitVec 32 := 0#32
  let c1_i32_24 : BitVec 32 := 1#32
  let arg14 : BitVec 32 := Scf.iv c0_i32_23 c1_i32_24 k0_t2
  let v49 : BitVec 32 := Scalar.muli c2_i32_27 arg14
  let c2_i32_146 : BitVec 32 := 2#32
  let v284 : BitVec 32 := Scalar.addi v49 c2_i32_146
  let c2048_i32 : BitVec 32 := 2048#32
  let v285 : BitVec 1 := Scalar.cmpi .slt v284 c2048_i32
  let v286 : BitVec 32 := Scalar.extui v285
  let c0_i32_147 : BitVec 32 := 0#32
  let v287 : BitVec 1 := Scalar.cmpi .ne v286 c0_i32_147
  v287

def k0_off4 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c2_i32_27 : BitVec 32 := 2#32
  let c0_i32_23 : BitVec 32 := 0#32
  let c1_i32_24 : BitVec 32 := 1#32
  let arg14 : BitVec 32 := Scf.iv c0_i32_23 c1_i32_24 k0_t2
  let v49 : BitVec 32 := Scalar.muli c2_i32_27 arg14
  let c2_i32_280 : BitVec 32 := 2#32
  let v526 : BitVec 32 := Scalar.addi v49 c2_i32_280
  let c128_i32_281 : BitVec 32 := 128#32
  let v527 : BitVec 32 := Scalar.muli v526 c128_i32_281
  let v528 : BitVec 32 := Scalar.addi v2 v527
  ![v528.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  ![v2.toNat]

def k0_chk9 (v332 : IVec S16 32) : Prop :=
  (∀ a x, ((![v332] : Fin 1 → IVec S16 32) a x).toNat < S64800.size a) ∧
  (∀ a x, ((![v332] : Fin 1 → IVec S16 32) a x).toNat < S64800.size a)
theorem k0_idx17_inb : ∀ (v332 : IVec S16 32) (k0_hw9 : k0_chk9 v332), ∀ a x, ((![v332] : Fin 1 → IVec S16 32) a x).toNat < S64800.size a := fun v332 k0_hw9 => k0_hw9.1
theorem k0_idx18_inb : ∀ (v332 : IVec S16 32) (k0_hw9 : k0_chk9 v332), ∀ a x, ((![v332] : Fin 1 → IVec S16 32) a x).toNat < S64800.size a := fun v332 k0_hw9 => k0_hw9.2

def k0_chk10 (v359 : IVec S16 32) : Prop :=
  (∀ a x, ((![v359] : Fin 1 → IVec S16 32) a x).toNat < S64800.size a) ∧
  (∀ a x, ((![v359] : Fin 1 → IVec S16 32) a x).toNat < S64800.size a)
theorem k0_idx19_inb : ∀ (v359 : IVec S16 32) (k0_hw10 : k0_chk10 v359), ∀ a x, ((![v359] : Fin 1 → IVec S16 32) a x).toNat < S64800.size a := fun v359 k0_hw10 => k0_hw10.1
theorem k0_idx20_inb : ∀ (v359 : IVec S16 32) (k0_hw10 : k0_chk10 v359), ∀ a x, ((![v359] : Fin 1 → IVec S16 32) a x).toNat < S64800.size a := fun v359 k0_hw10 => k0_hw10.2

def k0_chk11 (v386 : IVec S16 32) : Prop :=
  (∀ a x, ((![v386] : Fin 1 → IVec S16 32) a x).toNat < S64800.size a) ∧
  (∀ a x, ((![v386] : Fin 1 → IVec S16 32) a x).toNat < S64800.size a)
theorem k0_idx21_inb : ∀ (v386 : IVec S16 32) (k0_hw11 : k0_chk11 v386), ∀ a x, ((![v386] : Fin 1 → IVec S16 32) a x).toNat < S64800.size a := fun v386 k0_hw11 => k0_hw11.1
theorem k0_idx22_inb : ∀ (v386 : IVec S16 32) (k0_hw11 : k0_chk11 v386), ∀ a x, ((![v386] : Fin 1 → IVec S16 32) a x).toNat < S64800.size a := fun v386 k0_hw11 => k0_hw11.2

def k0_chk12 (v413 : IVec S16 32) : Prop :=
  (∀ a x, ((![v413] : Fin 1 → IVec S16 32) a x).toNat < S64800.size a) ∧
  (∀ a x, ((![v413] : Fin 1 → IVec S16 32) a x).toNat < S64800.size a)
theorem k0_idx23_inb : ∀ (v413 : IVec S16 32) (k0_hw12 : k0_chk12 v413), ∀ a x, ((![v413] : Fin 1 → IVec S16 32) a x).toNat < S64800.size a := fun v413 k0_hw12 => k0_hw12.1
theorem k0_idx24_inb : ∀ (v413 : IVec S16 32) (k0_hw12 : k0_chk12 v413), ∀ a x, ((![v413] : Fin 1 → IVec S16 32) a x).toNat < S64800.size a := fun v413 k0_hw12 => k0_hw12.2

def k0_chk13 (v440 : IVec S16 32) : Prop :=
  (∀ a x, ((![v440] : Fin 1 → IVec S16 32) a x).toNat < S64800.size a) ∧
  (∀ a x, ((![v440] : Fin 1 → IVec S16 32) a x).toNat < S64800.size a)
theorem k0_idx25_inb : ∀ (v440 : IVec S16 32) (k0_hw13 : k0_chk13 v440), ∀ a x, ((![v440] : Fin 1 → IVec S16 32) a x).toNat < S64800.size a := fun v440 k0_hw13 => k0_hw13.1
theorem k0_idx26_inb : ∀ (v440 : IVec S16 32) (k0_hw13 : k0_chk13 v440), ∀ a x, ((![v440] : Fin 1 → IVec S16 32) a x).toNat < S64800.size a := fun v440 k0_hw13 => k0_hw13.2

def k0_chk14 (v467 : IVec S16 32) : Prop :=
  (∀ a x, ((![v467] : Fin 1 → IVec S16 32) a x).toNat < S64800.size a) ∧
  (∀ a x, ((![v467] : Fin 1 → IVec S16 32) a x).toNat < S64800.size a)
theorem k0_idx27_inb : ∀ (v467 : IVec S16 32) (k0_hw14 : k0_chk14 v467), ∀ a x, ((![v467] : Fin 1 → IVec S16 32) a x).toNat < S64800.size a := fun v467 k0_hw14 => k0_hw14.1
theorem k0_idx28_inb : ∀ (v467 : IVec S16 32) (k0_hw14 : k0_chk14 v467), ∀ a x, ((![v467] : Fin 1 → IVec S16 32) a x).toNat < S64800.size a := fun v467 k0_hw14 => k0_hw14.2

def k0_chk15 (v494 : IVec S16 32) : Prop :=
  (∀ a x, ((![v494] : Fin 1 → IVec S16 32) a x).toNat < S64800.size a) ∧
  (∀ a x, ((![v494] : Fin 1 → IVec S16 32) a x).toNat < S64800.size a)
theorem k0_idx29_inb : ∀ (v494 : IVec S16 32) (k0_hw15 : k0_chk15 v494), ∀ a x, ((![v494] : Fin 1 → IVec S16 32) a x).toNat < S64800.size a := fun v494 k0_hw15 => k0_hw15.1
theorem k0_idx30_inb : ∀ (v494 : IVec S16 32) (k0_hw15 : k0_chk15 v494), ∀ a x, ((![v494] : Fin 1 → IVec S16 32) a x).toNat < S64800.size a := fun v494 k0_hw15 => k0_hw15.2

def k0_chk16 (v521 : IVec S16 32) : Prop :=
  (∀ a x, ((![v521] : Fin 1 → IVec S16 32) a x).toNat < S64800.size a) ∧
  (∀ a x, ((![v521] : Fin 1 → IVec S16 32) a x).toNat < S64800.size a)
theorem k0_idx31_inb : ∀ (v521 : IVec S16 32) (k0_hw16 : k0_chk16 v521), ∀ a x, ((![v521] : Fin 1 → IVec S16 32) a x).toNat < S64800.size a := fun v521 k0_hw16 => k0_hw16.1
theorem k0_idx32_inb : ∀ (v521 : IVec S16 32) (k0_hw16 : k0_chk16 v521), ∀ a x, ((![v521] : Fin 1 → IVec S16 32) a x).toNat < S64800.size a := fun v521 k0_hw16 => k0_hw16.2
def k0_cond2 (k0_t2 : Fin k0_t2_loop.trips) : BitVec 1 :=
  let c2_i32_27 : BitVec 32 := 2#32
  let c0_i32_23 : BitVec 32 := 0#32
  let c1_i32_24 : BitVec 32 := 1#32
  let arg14 : BitVec 32 := Scf.iv c0_i32_23 c1_i32_24 k0_t2
  let v49 : BitVec 32 := Scalar.muli c2_i32_27 arg14
  let c3_i32 : BitVec 32 := 3#32
  let v522 : BitVec 32 := Scalar.addi v49 c3_i32
  let c2048_i32_277 : BitVec 32 := 2048#32
  let v523 : BitVec 1 := Scalar.cmpi .slt v522 c2048_i32_277
  let v524 : BitVec 32 := Scalar.extui v523
  let c0_i32_278 : BitVec 32 := 0#32
  let v525 : BitVec 1 := Scalar.cmpi .ne v524 c0_i32_278
  v525

def k0_off6 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c2_i32_27 : BitVec 32 := 2#32
  let c0_i32_23 : BitVec 32 := 0#32
  let c1_i32_24 : BitVec 32 := 1#32
  let arg14 : BitVec 32 := Scf.iv c0_i32_23 c1_i32_24 k0_t2
  let v49 : BitVec 32 := Scalar.muli c2_i32_27 arg14
  let c3_i32_280 : BitVec 32 := 3#32
  let v526 : BitVec 32 := Scalar.addi v49 c3_i32_280
  let c128_i32_281 : BitVec 32 := 128#32
  let v527 : BitVec 32 := Scalar.muli v526 c128_i32_281
  let v528 : BitVec 32 := Scalar.addi v2 v527
  ![v528.toNat]
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64800_i32 : BitVec 32 := 64800#32
  let v47 : BitVec 32 := Scalar.muli v1 c64800_i32
  ![v47.toNat]
abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2x64800 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2x64800 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64800 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64800 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x3x64800 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x524288 : Shape := ⟨2, ![16, 524288]⟩
abbrev S64800 : Shape := ⟨1, ![64800]⟩
abbrev S_ : Shape := ⟨0, ![]⟩
abbrev S16 : Shape := ⟨1, ![16]⟩
abbrev S16x1 : Shape := ⟨2, ![16, 1]⟩
abbrev S8388608 : Shape := ⟨1, ![8388608]⟩
abbrev S1036800 : Shape := ⟨1, ![1036800]⟩
abbrev S8388608x1 : Shape := ⟨2, ![8388608, 1]⟩
abbrev S16x180x360 : Shape := ⟨3, ![16, 180, 360]⟩
abbrev S180x360 : Shape := ⟨2, ![180, 360]⟩
abbrev S1x180x360 : Shape := ⟨3, ![1, 180, 360]⟩
abbrev S16x1x180x360 : Shape := ⟨4, ![16, 1, 180, 360]⟩
abbrev S16x3x180x360 : Shape := ⟨4, ![16, 3, 180, 360]⟩

abbrev nBuf : Space → Nat
  | .hbm => 88
  | .vmem => 0
  | .smem => 0
  | _ => 0

abbrev bufTy : (tb : Table) → Fin (tcTables nBuf tb) → BufTy
  | .hbm, ⟨0, _⟩ => ⟨S16x524288, .f32⟩
  | .hbm, ⟨1, _⟩ => ⟨S16x524288, .f32⟩
  | .hbm, ⟨2, _⟩ => ⟨S16x524288, .f32⟩
  | .hbm, ⟨3, _⟩ => ⟨S64800, .f32⟩
  | .hbm, ⟨4, _⟩ => ⟨S64800, .f32⟩
  | .hbm, ⟨5, _⟩ => ⟨S_, .f32⟩
  | .hbm, ⟨6, _⟩ => ⟨S16x524288, .f32⟩
  | .hbm, ⟨7, _⟩ => ⟨S16x524288, .f32⟩
  | .hbm, ⟨8, _⟩ => ⟨S_, .f32⟩
  | .hbm, ⟨9, _⟩ => ⟨S16x524288, .f32⟩
  | .hbm, ⟨10, _⟩ => ⟨S16x524288, .f32⟩
  | .hbm, ⟨11, _⟩ => ⟨S16x524288, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S16x524288, .i32⟩
  | .hbm, ⟨16, _⟩ => ⟨S16x524288, .i32⟩
  | .hbm, ⟨17, _⟩ => ⟨S_, .i32⟩
  | .hbm, ⟨18, _⟩ => ⟨S16x524288, .i32⟩
  | .hbm, ⟨19, _⟩ => ⟨S16x524288, .i32⟩
  | .hbm, ⟨20, _⟩ => ⟨S_, .f32⟩
  | .hbm, ⟨21, _⟩ => ⟨S16x524288, .f32⟩
  | .hbm, ⟨22, _⟩ => ⟨S16x524288, .f32⟩
  | .hbm, ⟨23, _⟩ => ⟨S_, .f32⟩
  | .hbm, ⟨24, _⟩ => ⟨S16x524288, .f32⟩
  | .hbm, ⟨25, _⟩ => ⟨S16x524288, .f32⟩
  | .hbm, ⟨26, _⟩ => ⟨S16x524288, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S16x524288, .i32⟩
  | .hbm, ⟨31, _⟩ => ⟨S16x524288, .i32⟩
  | .hbm, ⟨32, _⟩ => ⟨S_, .i32⟩
  | .hbm, ⟨33, _⟩ => ⟨S16x524288, .i32⟩
  | .hbm, ⟨34, _⟩ => ⟨S16x524288, .i32⟩
  | .hbm, ⟨35, _⟩ => ⟨S_, .i32⟩
  | .hbm, ⟨36, _⟩ => ⟨S16x524288, .i32⟩
  | .hbm, ⟨37, _⟩ => ⟨S16x524288, .i32⟩
  | .hbm, ⟨38, _⟩ => ⟨S16x524288, .i32⟩
  | .hbm, ⟨39, _⟩ => ⟨S16, .i32⟩
  | .hbm, ⟨40, _⟩ => ⟨S16x1, .i32⟩
  | .hbm, ⟨41, _⟩ => ⟨S_, .i32⟩
  | .hbm, ⟨42, _⟩ => ⟨S16x1, .i32⟩
  | .hbm, ⟨43, _⟩ => ⟨S16x1, .i32⟩
  | .hbm, ⟨44, _⟩ => ⟨S16x524288, .i32⟩
  | .hbm, ⟨45, _⟩ => ⟨S16x524288, .i32⟩
  | .hbm, ⟨46, _⟩ => ⟨S8388608, .i32⟩
  | .hbm, ⟨47, _⟩ => ⟨S8388608, .f32⟩
  | .hbm, ⟨48, _⟩ => ⟨S_, .f32⟩
  | .hbm, ⟨49, _⟩ => ⟨S1036800, .f32⟩
  | .hbm, ⟨50, _⟩ => ⟨S_, .i32⟩
  | .hbm, ⟨51, _⟩ => ⟨S8388608, .i32⟩
  | .hbm, ⟨52, _⟩ => ⟨S8388608, .i1⟩
  | .hbm, ⟨53, _⟩ => ⟨S_, .i32⟩
  | .hbm, ⟨54, _⟩ => ⟨S8388608, .i32⟩
  | .hbm, ⟨55, _⟩ => ⟨S8388608, .i32⟩
  | .hbm, ⟨56, _⟩ => ⟨S8388608, .i32⟩
  | .hbm, ⟨57, _⟩ => ⟨S8388608x1, .i32⟩
  | .hbm, ⟨58, _⟩ => ⟨S1036800, .f32⟩
  | .hbm, ⟨59, _⟩ => ⟨S_, .f32⟩
  | .hbm, ⟨60, _⟩ => ⟨S1036800, .f32⟩
  | .hbm, ⟨61, _⟩ => ⟨S_, .f32⟩
  | .hbm, ⟨62, _⟩ => ⟨S8388608, .f32⟩
  | .hbm, ⟨63, _⟩ => ⟨S_, .i32⟩
  | .hbm, ⟨64, _⟩ => ⟨S8388608, .i32⟩
  | .hbm, ⟨65, _⟩ => ⟨S8388608, .i1⟩
  | .hbm, ⟨66, _⟩ => ⟨S_, .i32⟩
  | .hbm, ⟨67, _⟩ => ⟨S8388608, .i32⟩
  | .hbm, ⟨68, _⟩ => ⟨S8388608, .i32⟩
  | .hbm, ⟨69, _⟩ => ⟨S8388608, .i32⟩
  | .hbm, ⟨70, _⟩ => ⟨S8388608x1, .i32⟩
  | .hbm, ⟨71, _⟩ => ⟨S1036800, .f32⟩
  | .hbm, ⟨72, _⟩ => ⟨S_, .f32⟩
  | .hbm, ⟨73, _⟩ => ⟨S_, .f32⟩
  | .hbm, ⟨74, _⟩ => ⟨S1036800, .f32⟩
  | .hbm, ⟨75, _⟩ => ⟨S1036800, .f32⟩
  | .hbm, ⟨76, _⟩ => ⟨S1036800, .f32⟩
  | .hbm, ⟨77, _⟩ => ⟨S16x180x360, .f32⟩
  | .hbm, ⟨78, _⟩ => ⟨S180x360, .f32⟩
  | .hbm, ⟨79, _⟩ => ⟨S180x360, .f32⟩
  | .hbm, ⟨80, _⟩ => ⟨S1x180x360, .f32⟩
  | .hbm, ⟨81, _⟩ => ⟨S16x180x360, .f32⟩
  | .hbm, ⟨82, _⟩ => ⟨S1x180x360, .f32⟩
  | .hbm, ⟨83, _⟩ => ⟨S16x180x360, .f32⟩
  | .hbm, ⟨84, _⟩ => ⟨S16x1x180x360, .f32⟩
  | .hbm, ⟨85, _⟩ => ⟨S16x1x180x360, .f32⟩
  | .hbm, ⟨86, _⟩ => ⟨S16x1x180x360, .f32⟩
  | .hbm, ⟨87, _⟩ => ⟨S16x3x180x360, .f32⟩
  | _, _ => ⟨S16x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_c_5 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v11 : Ref sig .tc := ⟨.hbm, 34, rfl⟩
abbrev main_c_6 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_7 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_8 : Ref sig .tc := ⟨.hbm, 48, rfl⟩
abbrev main_v23 : Ref sig .tc := ⟨.hbm, 49, rfl⟩
abbrev main_c_9 : Ref sig .tc := ⟨.hbm, 50, rfl⟩
abbrev main_v24 : Ref sig .tc := ⟨.hbm, 51, rfl⟩
abbrev main_v25 : Ref sig .tc := ⟨.hbm, 52, rfl⟩
abbrev main_c_10 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_11 : Ref sig .tc := ⟨.hbm, 59, rfl⟩
abbrev main_v31 : Ref sig .tc := ⟨.hbm, 60, rfl⟩
abbrev main_cst_12 : Ref sig .tc := ⟨.hbm, 61, rfl⟩
abbrev main_v32 : Ref sig .tc := ⟨.hbm, 62, rfl⟩
abbrev main_c_13 : Ref sig .tc := ⟨.hbm, 63, rfl⟩
abbrev main_v33 : Ref sig .tc := ⟨.hbm, 64, rfl⟩
abbrev main_v34 : Ref sig .tc := ⟨.hbm, 65, rfl⟩
abbrev main_c_14 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_15 : Ref sig .tc := ⟨.hbm, 72, rfl⟩
abbrev main_call2_v0 : Ref sig .tc := ⟨.hbm, 73, rfl⟩
abbrev main_call2_v1 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩

abbrev nD : Nat := 1
abbrev τ : Topo := Topo.v7x

variable {F : FTy → Type} [FloatOps F]
-- ==== Proof.Index.lean ====
/-
  The pixel a point falls in, and the histogram of a run of points. A point's two angles give a row
  (of 180) and a column (of 360), each clamped into range, and the pixel is `row * 360 + column`.
  A tile's two histograms are the folds of its points, one point at a time in memory order: this
  is what sixteen-lane indexed additions into a table compute, group after group, for any float values.
-/
module

public import proofs.«01_k».proof.Defs
public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.Hist

open Cert.KernelIdeal Cert.KernelIdeal.Gen
open Idealize.ShloMosaic Idealize.SL.Sem

variable {F : FTy → Type} [FloatOps F]

/-! ## The pixel of a point -/

/-- A word clamped between zero and `hi`, as signed integers. -/
def clampW (hi w : BitVec 32) : BitVec 32 := IntOp.minsi hi (IntOp.maxsi 0#32 w)

/-- A clamped word is at most its bound. -/
theorem clampW_le (hi w : BitVec 32) (h : hi.toNat < 2 ^ 31) : (clampW hi w).toNat ≤ hi.toNat := by
  have e1 : hi.toInt = hi.toNat := BitVec.toInt_eq_toNat_of_lt (by omega)
  have key : ∀ v : BitVec 32, 0 ≤ v.toInt → (IntOp.minsi hi v).toNat ≤ hi.toNat := by
    intro v hv
    have e2 : v.toInt = v.toNat := by
      have := BitVec.toInt_eq_toNat_cond v
      have h3 := v.isLt
      split at this <;> omega
    unfold IntOp.minsi
    split
    · exact le_rfl
    · rename_i hlt
      simp only [BitVec.slt, decide_eq_true_eq] at hlt
      omega
  apply key
  unfold IntOp.maxsi
  split
  · simp
  · rename_i hlt
    simp only [BitVec.slt, decide_eq_true_eq] at hlt
    have : (0#32).toInt = 0 := by decide
    omega

/-- The row of a point: its first angle in half turns, times 180, cut to an integer and clamped. -/
def rowW (x : F .f32) : BitVec 32 :=
  clampW 179#32 (FloatOps.fptosi 32 (FloatOps.mulf (FloatOps.divf x (Scalar.ofBits .f32 0x40490FDB#32)) (Scalar.ofBits .f32 0x43340000#32)))

/-- The column of a point: its second angle in turns, times 360, cut to an integer and clamped. -/
def colW (y : F .f32) : BitVec 32 :=
  clampW 359#32 (FloatOps.fptosi 32 (FloatOps.mulf (FloatOps.divf y (Scalar.ofBits .f32 0x40C90FDB#32)) (Scalar.ofBits .f32 0x43B40000#32)))

/-- The pixel of a point, as the word the program computes. -/
def pixW (x y : F .f32) : BitVec 32 := IntOp.addi (IntOp.muli (rowW x) 360#32) (colW y)

/-- A pixel word reads as row times 360 plus column: nothing wraps. -/
theorem pixW_toNat (x y : F .f32) : (pixW x y).toNat = (rowW x).toNat * 360 + (colW y).toNat := by
  have h1 : (rowW x).toNat ≤ 179 := clampW_le 179#32 _ (by decide)
  have h2 : (colW y).toNat ≤ 359 := clampW_le 359#32 _ (by decide)
  simp only [pixW, IntOp.addi, IntOp.muli, BitVec.toNat_add, BitVec.toNat_mul, BitVec.toNat_ofNat]
  omega

/-- A pixel is one of the table's 64800. -/
theorem pixW_lt (x y : F .f32) : (pixW x y).toNat < 64800 := by
  have h1 : (rowW x).toNat ≤ 179 := clampW_le 179#32 _ (by decide)
  have h2 : (colW y).toNat ≤ 359 := clampW_le 359#32 _ (by decide)
  rw [pixW_toNat]
  omega

/-- The pixels of sixteen points. -/
def pixV (a b : Vec F S16 .f32) : IVec S16 32 := fun x => pixW (a x) (b x)

/-- Sixteen pixels are sixteen places of the table. -/
theorem pixV_inb (a b : Vec F S16 .f32) : ∀ (k : Fin S64800.rank) (x : S16.Idx), ((![pixV a b] : Fin 1 → IVec S16 32) k x).toNat < S64800.size k := by
  intro k x
  obtain rfl : k = 0 := Subsingleton.elim _ _
  exact pixW_lt _ _

/-! ## One point added to a table, and a run of them -/

/-- The table with `x` added at place `n`. -/
def bump (f : Vec F S64800 .f32) (n : ℕ) (x : F .f32) : Vec F S64800 .f32 :=
  fun j => if (j 0).val = n then FloatOps.idxAddf (f j) x else f j

/-- The table after the points `0, …, n - 1` of a run, point `e` adding `v e` at place `p e`. -/
def hist (z : Vec F S64800 .f32) (p : ℕ → ℕ) (v : ℕ → F .f32) : ℕ → Vec F S64800 .f32
  | 0 => z
  | n + 1 => bump (hist z p v n) (p n) (v n)

/-- A run of `n + k` points is the first `n`, then the next `k` folded one by one. -/
theorem hist_add (z : Vec F S64800 .f32) (p : ℕ → ℕ) (v : ℕ → F .f32) (n : ℕ) : ∀ k : ℕ,
    hist z p v (n + k) = (List.finRange k).foldl (fun g i => bump g (p (n + i.val)) (v (n + i.val))) (hist z p v n)
  | 0 => rfl
  | k + 1 => by
      rw [List.finRange_succ_last, List.foldl_append, List.foldl_map]
      show bump (hist z p v (n + k)) (p (n + k)) (v (n + k)) = _
      rw [hist_add z p v n k]
      rfl

/-- One indexed addition of sixteen lanes takes the table of a run to that of the run sixteen points longer. -/
theorem storeIdx_hist (z : Vec F S64800 .f32) (p : ℕ → ℕ) (v : ℕ → F .f32) (n : ℕ) (w : IVec S16 32) (y : Vec F S16 .f32)
    (h : ∀ (k : Fin S64800.rank) (x : S16.Idx), ((![w] : Fin 1 → IVec S16 32) k x).toNat < S64800.size k)
    (hp : ∀ i : Fin 16, (w (Shape.ofLane i)).toNat = p (n + i.val)) (hv : ∀ i : Fin 16, y (Shape.ofLane i) = v (n + i.val)) :
    storeIdx (F := F) (e := .f32) (hist z p v n) ![w] y (fun _ => 1#1) true h = hist z p v (n + 16) := by
  rw [hist_add]
  unfold storeIdx
  congr 1
  funext g i
  rw [← hp i, ← hv i]
  funext j
  have hj : (∀ a, (j a).val = (idxAt ![w] h (Shape.ofLane i) a).val) ↔ (j 0).val = (w (Shape.ofLane i)).toNat :=
    ⟨fun hh => hh 0, fun hh a => by obtain rfl : a = 0 := Subsingleton.elim _ _; exact hh⟩
  refine (congrFun (if_pos rfl) j).trans ?_
  unfold bump
  by_cases hc : (j 0).val = (w (Shape.ofLane i)).toNat
  · refine (if_pos (hj.2 hc)).trans ((if_pos hc).trans ?_).symm
    have e : j = idxAt ![w] h (Shape.ofLane i) := by
      funext a; exact Fin.ext (hj.2 hc a)
    rw [← e]
    rfl
  · exact (if_neg (fun hh => hc (hj.1 hh))).trans (if_neg hc).symm

end Cert.Proof.Hist
-- ==== Proof.Setup.lean ====
/-
  The launch as its theorem sees it, the resource algebra, and one step of the tile's program at a time: a copy of a
  window of 128 points into a slot, the three waits of a slot, a load of sixteen lanes, and one group of sixteen points
  added to the two tables.
-/
module

public import proofs.«01_k».proof.Proof.Index
public import Idealize.ShloMosaic.Lib.SparseCore.Quiescent
public import Idealize.ShloMosaic.Lib.ShareLeaves
public import Idealize.ShloMosaic.Lib.StableHlo.Run
public import Idealize.ShloMosaic.Lib.Pipeline.Kit
public import Idealize.ShloMosaic.Lib.Pipeline.Regions
public import Idealize.ShloMosaic.Lib.Batch

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's cells and buffers are as the launch theorem wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the finalize region's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb

variable [FloatOps F]

section Steps

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

abbrev Flat : Type := Memref sig .scVector .hbm S8388608 .f32
abbrev Slots : Type := Memref sig .scVector .vmem S2x128 .f32
abbrev Table : Type := Memref sig .scVector .vmem S64800 .f32

/-- Entry `n` of a flat array, counted around. -/
def flatIx (n : ℕ) : S8388608.Idx := fun a => ⟨n % 8388608, by obtain rfl : a = 0 := Subsingleton.elim _ _; exact Nat.mod_lt _ (by norm_num)⟩

/-- A flat array by number. -/
def natA (M : Flat) (f : Buf (Elt F) (M.view.loc (thr d L))) (n : ℕ) : F .f32 :=
  M.view.read (Elt F) f (flatIx n)

abbrev SlotInb (r : ℕ) : Prop := ∀ a, (![r, 0] : Fin 2 → ℕ) a + S1x128.size a ≤ S2x128.size a
/-- Row `r` of a pair of slots, as the kernel names it. -/
abbrev slotM (M : Slots) (r : ℕ) (h : SlotInb r) : Memref sig .scVector .vmem S128 .f32 :=
  (M.slice (Rect.unit (s := S2x128) ![r, 0] S1x128.size h) (fun _ => rfl)).squeeze S128 squeezes_S1x128_S128

/-- Row `r` of a pair of slots is held, at some contents. -/
def slotAny (M : Slots) (r : ℕ) (h : SlotInb r) : sProp 𝕄 :=
  iprop(∃ f, (slotM M r h).view.loc (thr d L) ↦[(slotM M r h).view.set]{fullShare} f)

/-- Row `r` of a pair of slots is held and is the 128 entries of `A` from `n` on. -/
def slotHas (M : Slots) (r : ℕ) (h : SlotInb r) (A : ℕ → F .f32) (n : ℕ) : sProp 𝕄 :=
  iprop(∃ f, ((slotM M r h).view.loc (thr d L) ↦[(slotM M r h).view.set]{fullShare} f)
    ∗ ⌜∀ y : S128.Idx, (slotM M r h).view.read (Elt F) f y = A (n + (y 0).val)⌝)

omit [FloatOps F] in
theorem slotHas_any (M : Slots) (r : ℕ) (h : SlotInb r) (A : ℕ → F .f32) (n : ℕ) :
    slotHas d L M r h A n ⊢ slotAny d L M r h := by
  unfold slotHas slotAny
  iintro ⟨%f, H, -⟩
  iexists f; iexact H

theorem win_inb {n : ℕ} (h : n + 128 ≤ 8388608) : ∀ a, (![n] : Fin 1 → ℕ) a + S128.size a ≤ S8388608.size a := by
  intro a; obtain rfl : a = 0 := Subsingleton.elim _ _; exact h
/-- The 128 points from `n` on of a flat array. -/
abbrev win (M : Flat) (n : ℕ) (h : n + 128 ≤ 8388608) : Memref sig .scVector .hbm S128 .f32 :=
  M.slice (Rect.unit (s := S8388608) ![n] S128.size (win_inb h)) (fun _ => rfl)

/-- What a copy of a window leaves: the slot at the window's entries, the window's share back. -/
def deliv (M : Flat) (q : PosShare TreeShare) (f : Buf (Elt F) (M.view.loc (thr d L))) (N : Slots) (r : ℕ) (h : SlotInb r)
    (n : ℕ) (hn : n + 128 ≤ 8388608) : sProp 𝕄 :=
  iprop(slotHas d L N r h (natA d L M f) n ∗ ((M.view.loc (thr d L)) ↦[(win M n hn).view.set]{q} f))

/-- What is kept of a flat array's share while a copy of a window is in flight. -/
def keep (M : Flat) (q : PosShare TreeShare) (f : Buf (Elt F) (M.view.loc (thr d L))) (n : ℕ) (hn : n + 128 ≤ 8388608) : sProp 𝕄 :=
  (M.view.loc (thr d L)) ↦[Finset.univ \ (win M n hn).view.set]{q} f

instance deliv_storable (M : Flat) (q : PosShare TreeShare) (f : Buf (Elt F) (M.view.loc (thr d L))) (N : Slots) (r : ℕ) (h : SlotInb r)
    (n : ℕ) (hn : n + 128 ≤ 8388608) : BI.Storable (upEmb : UEmb _ 𝕄) (deliv d L M q f N r h n hn) := by
  unfold deliv slotHas; infer_instance

omit [FloatOps F] in
/-- An index of a window is that many entries on. -/
theorem win_read (M : Flat) (n : ℕ) (hn : n + 128 ≤ 8388608) (f : Buf (Elt F) (M.view.loc (thr d L))) (y : S128.Idx) :
    (win M n hn).view.read (Elt F) f y = natA d L M f (n + (y 0).val) := by
  have hy : (y 0).val < 128 := (y 0).isLt
  have e : (Rect.unit (s := S8388608) ![n] S128.size (win_inb hn)).emb y
      = flatIx (n + (y 0).val) := by
    funext a
    obtain rfl : a = 0 := Subsingleton.elim _ _
    apply Fin.ext
    show n + 1 * (y 0).val = (n + (y 0).val) % 8388608
    rw [Nat.mod_eq_of_lt (by omega)]; omega
  show M.view.read (Elt F) f ((Rect.unit (s := S8388608) ![n] S128.size (win_inb hn)).emb y) = _
  rw [e]; rfl

/-- One copy of a window of 128 points into a slot, the `j`-th of its slot's batch. -/
theorem wp_issue {bd : Option (𝒱₀).V} {α : Type} {M : Flat} {N : Slots} {r : ℕ} {h : SlotInb r} {off : Fin 1 → ℕ} {hin : ∀ a, off a + S128.size a ≤ S8388608.size a}
    {n : ℕ} (hoff : off = ![n]) (hn : n + 128 ≤ 8388608) {sm : DmaSem sig} {hs : ∀ a, (Rect.unit (s := S8388608) off S128.size hin).stride a = 1}
    {hsrc : (M.slice (Rect.unit (s := S8388608) off S128.size hin) hs).view.WordExact} {hdst : (slotM N r h).view.WordExact}
    {hsem : DmaTarget.Typed (nD := nD) .hbm (SemLoc.dma sm) (DmaTarget.here (p := .scVector (cV L) (jV L)) (slotM N r h))}
    {q : PosShare TreeShare} {f : Buf (Elt F) (M.view.loc (thr d L))}
    {k : PUnit → Prog (TpuEff nD τ sig (Elt F) Λ₀ (.scVector (cV L) (jV L))) α} {Q : α → sProp 𝕄}
    {nb : ℕ} (Ds : Fin nb → sProp 𝕄) (u : ℕ) (j : ℕ) (hj : j < nb) (Nn : ℕ) (hN : (slotM N r h).view.amount (.dma sm) = Nn) (hu : u ≤ j * Nn)
    (hD : deliv d L M q f N r h n hn ⊢ Ds ⟨j, hj⟩) :
    iprop(((M.view.loc (thr d L)) ↦{q} f) ∗ slotAny d L N r h ∗ Transfers.Batch EC (thr d L) (.dma sm) (default : HIx 1) Nn Ds j u)
      ⊢ iprop((iprop(keep d L M q f n hn ∗ Transfers.Batch EC (thr d L) (.dma sm) (default : HIx 1) Nn Ds (j + 1) u)
          -∗ wp frame (wpE (defs₀ (F := F)) 𝒱₀ (thr d L) bd) Set.univ (k ⟨⟩) Q)
        -∗ wp frame (wpE (defs₀ (F := F)) 𝒱₀ (thr d L) bd) Set.univ
          (.op (.enqueueDma (p := .scVector (cV L) (jV L)) (M.slice (Rect.unit (s := S8388608) off S128.size hin) hs) (.here (slotM N r h)) (.dma sm) hsrc hdst hsem) k) Q) := by
  subst hoff
  have hD' : ∀ g : Buf (Elt F) ((slotM N r h).view.loc (thr d L)),
      iprop(((slotM N r h).view.loc (thr d L) ↦[(slotM N r h).view.set]{fullShare}
            ((slotM N r h).view.write (Elt F) g (ReadAs.same.apply ((win M n hn).view.read (Elt F) f)) Finset.univ))
          ∗ ((win M n hn).view.loc (thr d L) ↦[(win M n hn).view.set]{q} f) : sProp 𝕄) ⊢ Ds ⟨j, hj⟩ := by
    intro g
    refine (show iprop(_ ∗ _) ⊢ deliv d L M q f N r h n hn from ?_).trans hD
    unfold deliv slotHas
    iintro ⟨Hd, Hs⟩
    isplitl [Hd]
    · iexists _
      isplitl [Hd]; · iexact Hd
      ipureintro; intro y
      rw [View.read_write_univ]
      exact win_read d L M n hn f y
    · iexact Hs
  unfold slotAny keep
  iintro ⟨HM, ⟨%g, HN⟩, HB⟩ Hk
  ihave HM' := (pointsTo_split_subset (q := q) (f := f) (S := Finset.univ) (Finset.subset_univ (win M n hn).view.set)).1 $$ HM
  icases HM' with ⟨Hw, Hr⟩
  iapply (Transfers.wp_dmaBatch EC 𝒱₀ (thr d L) bd (src := win M n hn) (via := .same) (dst := slotM N r h) (Sd := (slotM N r h).view.set)
    (D := Ds) (j := j) (u := u) (q := q) (fs := f) (fd := g) (default : HIx 1) Nn hN (Finset.Subset.refl _) hj hu (hD' g)) $$ [Hw HN HB]
  · isplitl [Hw]; · iexact Hw
    isplitl [HN]; · iexact HN
    iexact HB
  iintro HB
  iapply Hk
  isplitl [Hr]; · iexact Hr
  iexact HB

omit [FloatOps F] in
/-- A window's share and the rest are the whole array's. -/
theorem keep_join (M : Flat) (q : PosShare TreeShare) (f : Buf (Elt F) (M.view.loc (thr d L))) (n : ℕ) (hn : n + 128 ≤ 8388608) :
    iprop(((M.view.loc (thr d L)) ↦[(win M n hn).view.set]{q} f) ∗ keep d L M q f n hn) ⊢ ((M.view.loc (thr d L)) ↦{q} f : sProp 𝕄) :=
  (pointsTo_split_subset (q := q) (f := f) (S := Finset.univ) (Finset.subset_univ (win M n hn).view.set)).2

/-- The three waits of a slot's batch of three copies: all three copies' ends at once. -/
theorem wp_wait3 {bd : Option (𝒱₀).V} {α : Type} {sm : DmaSem sig} {s1 s2 s3 : Memref sig .scVector .hbm S128 .f32} {d1 d2 d3 : Memref sig .scVector .vmem S128 .f32}
    {hs1 : s1.view.WordExact} {hs2 : s2.view.WordExact} {hs3 : s3.view.WordExact} {hd1 : d1.view.WordExact} {hd2 : d2.view.WordExact} {hd3 : d3.view.WordExact}
    (Nn : ℕ) (h1 : d1.view.dmaCredit = Nn) (h2 : d2.view.dmaCredit = Nn) (h3 : d3.view.dmaCredit = Nn) (h0 : 0 < Nn)
    {Ds : Fin 3 → sProp 𝕄} {O : CellTallies nD τ sig (HIx 1)} {W : Waits sig (HIx 1)}
    {k : PUnit → Prog (TpuEff nD τ sig (Elt F) Λ₀ (.scVector (cV L) (jV L))) α} {Q : α → sProp 𝕄} :
    iprop(Transfers.Batch EC (thr d L) (.dma sm) (default : HIx 1) Nn Ds 3 0 ∗ □ Transfers.MayWaits (thr d L) (default : HIx 1) O
        ∗ ∃ W', ⌜∀ p ∈ W', p ∈ W ∨ p.2 = none⌝ ∗ owes (thr d L) O W')
      ⊢ iprop((iprop((Ds 0 ∗ Ds 1 ∗ Ds 2) ∗ semVal (thr d L, .dma sm) 0 ∗ ∃ W', ⌜∀ p ∈ W', p ∈ W ∨ p.2 = none⌝ ∗ owes (thr d L) O W')
          -∗ wp frame (wpE (defs₀ (F := F)) 𝒱₀ (thr d L) bd) Set.univ (k ⟨⟩) Q)
        -∗ wp frame (wpE (defs₀ (F := F)) 𝒱₀ (thr d L) bd) Set.univ
          (.op (.waitDma2 (p := .scVector (cV L) (jV L)) sm s1 d1 hs1 hd1) fun _ => .op (.waitDma2 (p := .scVector (cV L) (jV L)) sm s2 d2 hs2 hd2) fun _ => .op (.waitDma2 (p := .scVector (cV L) (jV L)) sm s3 d3 hs3 hd3) k) Q) := by
  iintro ⟨HB, #Hmw, %W', %hW, HO⟩ Hk
  iapply (Transfers.wp_waitBatchO EC 𝒱₀ (thr d L) bd (default : HIx 1) h1 (D := Ds) (u := 0) (by omega)) $$ [HB HO]
  · isplitl [HB]; · iexact HB
    isplitl [HO]; · iexact HO
    iapply (Transfers.MayWaits.elim (SemLoc.dma sm)) $$ Hmw
  iintro ⟨HB, HO⟩
  iapply (Transfers.wp_waitBatchO EC 𝒱₀ (thr d L) bd (default : HIx 1) h2 (D := Ds) (u := 0 + Nn) (by omega)) $$ [HB HO]
  · isplitl [HB]; · iexact HB
    isplitl [HO]; · iexact HO
    iapply (Transfers.MayWaits.elim (SemLoc.dma sm)) $$ Hmw
  iintro ⟨HB, HO⟩
  iapply (Transfers.wp_waitBatchLastO EC 𝒱₀ (thr d L) bd (default : HIx 1) h3 h0 (D := Ds) (u := 0 + Nn + Nn) (by omega)) $$ [HB HO]
  · isplitl [HB]; · iexact HB
    isplitl [HO]; · iexact HO
    iapply (Transfers.MayWaits.elim (SemLoc.dma sm)) $$ Hmw
  iintro ⟨HD, Hs, HO⟩
  iapply Hk
  isplitl [HD]
  · rw [show (Finset.univ : Finset (Fin 3)) = {0, 1, 2} from rfl]
    iapply (Entails.of_eq (show bigSep ({0, 1, 2} : Finset (Fin 3)) Ds = iprop(Ds 0 ∗ Ds 1 ∗ Ds 2) by
      rw [bigSep_insert (by decide), bigSep_insert (by decide), bigSep_singleton]; rfl)) $$ HD
  isplitl [Hs]; · iexact Hs
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW p hp

end Steps

end Cert.Proof.Hist
-- ==== Proof.Steps.lean ====
/-
  Loads of sixteen lanes of a slot, and one group of sixteen points added to the tile's two tables.
-/
module

public import proofs.«01_k».proof.Proof.Setup

@[expose] public section

noncomputable section

namespace Cert.Proof.Hist

open Cert.KernelIdeal Cert.KernelIdeal.Gen
open Idealize.ShloMosaic
open Idealize.ShloMosaic.SparseCore (S V T vectorStoreIdx)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Sixteen consecutive entries, as a load of a slot gives them. -/
def ldV (A : ℕ → F .f32) (n : ℕ) : Vec F S1x16 .f32 := fun x => A (n + (x 1).val)

omit [FloatOps F] in
/-- A row of sixteen as sixteen lanes. -/
theorem lane_ldV (A : ℕ → F .f32) (n : ℕ) (i : Fin 16) : shapeCast S16 (ldV A n) shapeCasts_S1x16_S16 (Shape.ofLane i) = A (n + i.val) := by
  unfold shapeCast
  rw [show Shape.reshapeEquiv _ (Shape.ofLane i : S16.Idx) = (Fin.cons ⟨0, Nat.one_pos⟩ (Shape.ofLane i : S16.Idx) : S1x16.Idx) from
    Shape.reshapeEquiv_cons_one _ _]
  rfl

omit [FloatOps F] in
/-- What a load of sixteen lanes of a slot reads. -/
theorem slot_load (M : Slots) (r : ℕ) (h : SlotInb r) (o : ℕ) (hin : ∀ a, (![r, o] : Fin 2 → ℕ) a + S1x16.size a ≤ S2x128.size a)
    (A : ℕ → F .f32) (n : ℕ) (f : Buf (Elt F) (M.view.loc (thr d L)))
    (hf : ∀ y : S128.Idx, (slotM M r h).view.read (Elt F) f y = A (n + (y 0).val)) :
    M.view.readAt (Elt F) (Rect.unit (s := S2x128) ![r, o] S1x16.size hin).toLoadRect f = ldV A (n + o) := by
  funext x
  have hx : (x 1).val < 16 := (x 1).isLt
  have ho : o + 16 ≤ 128 := hin 1
  let y : S128.Idx := Shape.ofLane ⟨o + (x 1).val, lt_of_lt_of_le (Nat.add_lt_add_left hx o) ho⟩
  have e := hf y
  have ey : (n + (y 0).val) = n + o + (x 1).val := by show n + (o + (x 1).val) = _; omega
  rw [ey] at e
  show _ = A (n + o + (x 1).val)
  rw [← e]
  show M.view.read (Elt F) f _ = M.view.read (Elt F) f _
  congr 1
  show (Rect.unit (s := S2x128) ![r, o] S1x16.size hin).emb x
    = (Rect.unit (s := S2x128) ![r, 0] S1x128.size h).emb (Shape.reshapeEquiv _ y)
  rw [show Shape.reshapeEquiv _ y = (Fin.cons ⟨0, Nat.one_pos⟩ y : S1x128.Idx) from Shape.reshapeEquiv_cons_one _ _]
  funext a
  apply Fin.ext
  have h0 : (x 0).val < 1 := (x 0).isLt
  match a with
  | 0 => show r + 1 * (x 0).val = r + 1 * 0; omega
  | 1 => show o + 1 * (x 1).val = 0 + 1 * (o + (x 1).val); omega

omit [FloatOps F] in
/-- A load's elements are the slot's. -/
theorem load_subset (M : Slots) (r : ℕ) (h : SlotInb r) (o : ℕ) (hin : ∀ a, (![r, o] : Fin 2 → ℕ) a + S1x16.size a ≤ S2x128.size a) :
    M.view.setOn (Rect.unit (s := S2x128) ![r, o] S1x16.size hin).toLoadRect.set ⊆ (slotM M r h).view.set := by
  show _ ⊆ ((M.view.slice (Rect.unit (s := S2x128) ![r, 0] S1x128.size h)).reshape S128 squeezes_S1x128_S128.numel_eq).set
  rw [View.set_reshape, View.set_slice]
  show (Rect.unit (s := S2x128) ![r, o] S1x16.size hin).toLoadRect.set.map _ ⊆ _
  rw [Finset.map_subset_map]
  intro j hj
  rw [Rect.mem_set_unit] at hj ⊢
  intro a
  have := hj a
  match a with
  | 0 => exact this
  | 1 =>
    have ho : o + 16 ≤ 128 := hin 1
    have h1 : o ≤ (j 1).val ∧ (j 1).val < o + 16 := this
    show 0 ≤ (j 1).val ∧ (j 1).val < 0 + 128
    omega

/-- The three loads of a group. -/
theorem wp_load3 {bd : Option (𝒱₀).V} {α : Type} {M0 M1 M2 : Slots} {r o : ℕ} {h : SlotInb r}
    {i0 : ∀ a, (![r, o] : Fin 2 → ℕ) a + S1x16.size a ≤ S2x128.size a}
    {l0 : M0.view.LoadsAt (Rect.unit (s := S2x128) ![r, o] S1x16.size i0).toLoadRect}
    {l1 : M1.view.LoadsAt (Rect.unit (s := S2x128) ![r, o] S1x16.size i0).toLoadRect}
    {l2 : M2.view.LoadsAt (Rect.unit (s := S2x128) ![r, o] S1x16.size i0).toLoadRect}
    {A0 A1 A2 : ℕ → F .f32} {n : ℕ}
    {k : Vec F S1x16 .f32 → Vec F S1x16 .f32 → Vec F S1x16 .f32 → Prog (TpuEff nD τ sig (Elt F) Λ₀ (.scVector (cV L) (jV L))) α} {Q : α → sProp 𝕄} :
    iprop(slotHas d L M0 r h A0 n ∗ slotHas d L M1 r h A1 n ∗ slotHas d L M2 r h A2 n)
      ⊢ iprop((iprop(slotHas d L M0 r h A0 n ∗ slotHas d L M1 r h A1 n ∗ slotHas d L M2 r h A2 n)
          -∗ wp frame (wpE (defs₀ (F := F)) 𝒱₀ (thr d L) bd) Set.univ (k (ldV A0 (n + o)) (ldV A1 (n + o)) (ldV A2 (n + o))) Q)
        -∗ wp frame (wpE (defs₀ (F := F)) 𝒱₀ (thr d L) bd) Set.univ
          (.op (.load (p := .scVector (cV L) (jV L)) M0 (Rect.unit (s := S2x128) ![r, o] S1x16.size i0).toLoadRect l0) fun a =>
            .op (.load (p := .scVector (cV L) (jV L)) M1 (Rect.unit (s := S2x128) ![r, o] S1x16.size i0).toLoadRect l1) fun b =>
            .op (.load (p := .scVector (cV L) (jV L)) M2 (Rect.unit (s := S2x128) ![r, o] S1x16.size i0).toLoadRect l2) fun c => k a b c) Q) := by
  unfold slotHas
  iintro ⟨⟨%f0, H0, %e0⟩, ⟨%f1, H1, %e1⟩, ⟨%f2, H2, %e2⟩⟩ Hk
  iapply (wp_load 𝒱₀ (thr d L) bd Set.univ (m := M0) (load_subset M0 r h o i0)) $$ H0
  iintro H0
  iapply (wp_load 𝒱₀ (thr d L) bd Set.univ (m := M1) (load_subset M1 r h o i0)) $$ H1
  iintro H1
  iapply (wp_load 𝒱₀ (thr d L) bd Set.univ (m := M2) (load_subset M2 r h o i0)) $$ H2
  iintro H2
  rw [slot_load d L M0 r h o i0 A0 n f0 e0, slot_load d L M1 r h o i0 A1 n f1 e1, slot_load d L M2 r h o i0 A2 n f2 e2]
  iapply Hk
  isplitl [H0]; · iexists f0; isplitl [H0]; · iexact H0
                  ipureintro; exact e0
  isplitl [H1]; · iexists f1; isplitl [H1]; · iexact H1
                  ipureintro; exact e1
  iexists f2; isplitl [H2]; · iexact H2
  ipureintro; exact e2

/-! ## The two tables -/

def zeroF : F .f32 := Scalar.ofBits .f32 0x00000000#32
def oneF : F .f32 := Scalar.ofBits .f32 0x3F800000#32

/-- A table is held, at `X`. -/
def tabHas (M : Table) (X : Vec F S64800 .f32) : sProp 𝕄 :=
  iprop(∃ f, ((M.access (.whole S64800)).loc (thr d L) ↦[(M.access (.whole S64800)).set]{fullShare} f)
    ∗ ⌜(M.access (.whole S64800)).read (Elt F) f = X⌝)

/-- The pixel of the `k`-th point from `b` on. -/
def pixAt (A0 A1 : ℕ → F .f32) (b k : ℕ) : ℕ := (pixW (A0 (b + k)) (A1 (b + k))).toNat

/-- The sums of the first `n` points' values by pixel. -/
def sumH (A0 A1 A2 : ℕ → F .f32) (b n : ℕ) : Vec F S64800 .f32 := hist (fun _ => zeroF) (pixAt A0 A1 b) (fun k => A2 (b + k)) n
/-- The counts of the first `n` points by pixel. -/
def cntH (A0 A1 : ℕ → F .f32) (b n : ℕ) : Vec F S64800 .f32 := hist (fun _ => zeroF) (pixAt A0 A1 b) (fun _ => oneF) n

/-- The tile's two tables after its first `n` points. -/
def tabs (M N : Table) (A0 A1 A2 : ℕ → F .f32) (b n : ℕ) : sProp 𝕄 :=
  iprop(tabHas d L M (sumH A0 A1 A2 b n) ∗ tabHas d L N (cntH A0 A1 b n))

/-- One group: sixteen points' values and sixteen ones added to the two tables. -/
theorem wp_group {bd : Option (𝒱₀).V} {α : Type} {M N : Table} (A0 A1 A2 : ℕ → F .f32) (b n : ℕ) {w : IVec S16 32} {y o : Vec F S16 .f32}
    {h1 h2 : ∀ (k : Fin S64800.rank) (x : S16.Idx), ((![w] : Fin 1 → IVec S16 32) k x).toNat < S64800.size k}
    {s1 : (M.access (.whole S64800)).Stores Finset.univ} {s2 : (N.access (.whole S64800)).Stores Finset.univ}
    (hw : w = pixV (shapeCast S16 (ldV A0 (b + n)) shapeCasts_S1x16_S16) (shapeCast S16 (ldV A1 (b + n)) shapeCasts_S1x16_S16))
    (hy : y = shapeCast S16 (ldV A2 (b + n)) shapeCasts_S1x16_S16) (ho : o = fun _ => oneF)
    {k : PUnit → Prog (TpuEff nD τ sig (Elt F) Λ₀ (.scVector (cV L) (jV L))) α} {Q : α → sProp 𝕄} :
    tabs d L M N A0 A1 A2 b n
      ⊢ iprop((tabs d L M N A0 A1 A2 b (n + 16) -∗ wp frame (wpE (defs₀ (F := F)) 𝒱₀ (thr d L) bd) Set.univ (k ⟨⟩) Q)
        -∗ wp frame (wpE (defs₀ (F := F)) 𝒱₀ (thr d L) bd) Set.univ
          (vectorStoreIdx (p := .scVector (cV L) (jV L)) M ![w] y (fun _ => 1#1) true h1 s1 >>= fun _ =>
            vectorStoreIdx (p := .scVector (cV L) (jV L)) N ![w] o (fun _ => 1#1) true h2 s2 >>= k) Q) := by
  have hp : ∀ i : Fin 16, (w (Shape.ofLane i)).toNat = pixAt A0 A1 b (n + i.val) := by
    intro i; subst hw
    show (pixW (shapeCast S16 (ldV A0 (b + n)) shapeCasts_S1x16_S16 (Shape.ofLane i)) (shapeCast S16 (ldV A1 (b + n)) shapeCasts_S1x16_S16 (Shape.ofLane i))).toNat = _
    rw [lane_ldV, lane_ldV]; unfold pixAt; rw [Nat.add_assoc]
  have hv : ∀ i : Fin 16, y (Shape.ofLane i) = A2 (b + (n + i.val)) := by
    intro i; subst hy; rw [lane_ldV, Nat.add_assoc]
  unfold tabs tabHas
  iintro ⟨⟨%f, HM, %ef⟩, ⟨%g, HN, %eg⟩⟩ Hk
  iapply (SparseCore.wp_vectorStoreIdx 𝒱₀ (thr d L) bd Set.univ (base := M)) $$ HM
  iintro HM
  iapply (SparseCore.wp_vectorStoreIdx 𝒱₀ (thr d L) bd Set.univ (base := N)) $$ HN
  iintro HN
  iapply Hk
  isplitl [HM]
  · iexists _; isplitl [HM]; · iexact HM
    ipureintro
    rw [View.read_write_univ, ef]
    exact storeIdx_hist _ _ (fun k => A2 (b + k)) n w y h1 hp hv
  · iexists _; isplitl [HN]; · iexact HN
    ipureintro
    rw [View.read_write_univ, eg]
    exact storeIdx_hist _ _ (fun _ => oneF) n w o h2 hp (fun i => by rw [ho])

/-- A group whole: its loads, the check of its pixels, its additions. -/
theorem wp_points {bd : Option (𝒱₀).V} {α : Type} {M0 M1 M2 : Slots} {M N : Table} {r o : ℕ} {h : SlotInb r}
    {i0 : ∀ a, (![r, o] : Fin 2 → ℕ) a + S1x16.size a ≤ S2x128.size a}
    {l0 : M0.view.LoadsAt (Rect.unit (s := S2x128) ![r, o] S1x16.size i0).toLoadRect}
    {l1 : M1.view.LoadsAt (Rect.unit (s := S2x128) ![r, o] S1x16.size i0).toLoadRect}
    {l2 : M2.view.LoadsAt (Rect.unit (s := S2x128) ![r, o] S1x16.size i0).toLoadRect}
    {A0 A1 A2 : ℕ → F .f32} {m b n n' : ℕ} (hm : m + o = b + n) (hn : n + 16 = n')
    {C : Vec F S1x16 .f32 → Vec F S1x16 .f32 → Vec F S1x16 .f32 → Prop} {dC : ∀ x y z, Decidable (C x y z)}
    {w : Vec F S1x16 .f32 → Vec F S1x16 .f32 → Vec F S1x16 .f32 → IVec S16 32} {y : Vec F S1x16 .f32 → Vec F S1x16 .f32 → Vec F S1x16 .f32 → Vec F S16 .f32}
    {one : Vec F S16 .f32}
    {h1 h2 : ∀ x y z, PLift (C x y z) → ∀ (k : Fin S64800.rank) (i : S16.Idx), ((![w x y z] : Fin 1 → IVec S16 32) k i).toNat < S64800.size k}
    {s1 : (M.access (.whole S64800)).Stores Finset.univ} {s2 : (N.access (.whole S64800)).Stores Finset.univ}
    (hw : ∀ x y z, w x y z = pixV (shapeCast S16 x shapeCasts_S1x16_S16) (shapeCast S16 y shapeCasts_S1x16_S16))
    (hy : ∀ x y' z, y x y' z = shapeCast S16 z shapeCasts_S1x16_S16) (ho : one = fun _ => oneF)
    (hC : ∀ x y z, w x y z = pixV (shapeCast S16 x shapeCasts_S1x16_S16) (shapeCast S16 y shapeCasts_S1x16_S16) → C x y z)
    {k : Vec F S1x16 .f32 → Vec F S1x16 .f32 → Vec F S1x16 .f32 → PUnit → Prog (TpuEff nD τ sig (Elt F) Λ₀ (.scVector (cV L) (jV L))) α} {Q : α → sProp 𝕄} :
    iprop((slotHas d L M0 r h A0 m ∗ slotHas d L M1 r h A1 m ∗ slotHas d L M2 r h A2 m) ∗ tabs d L M N A0 A1 A2 b n)
      ⊢ iprop((iprop((slotHas d L M0 r h A0 m ∗ slotHas d L M1 r h A1 m ∗ slotHas d L M2 r h A2 m) ∗ tabs d L M N A0 A1 A2 b n')
          -∗ wp frame (wpE (defs₀ (F := F)) 𝒱₀ (thr d L) bd) Set.univ (k (ldV A0 (m + o)) (ldV A1 (m + o)) (ldV A2 (m + o)) ⟨⟩) Q)
        -∗ wp frame (wpE (defs₀ (F := F)) 𝒱₀ (thr d L) bd) Set.univ
          (.op (.load (p := .scVector (cV L) (jV L)) M0 (Rect.unit (s := S2x128) ![r, o] S1x16.size i0).toLoadRect l0) fun a =>
            .op (.load (p := .scVector (cV L) (jV L)) M1 (Rect.unit (s := S2x128) ![r, o] S1x16.size i0).toLoadRect l1) fun b =>
            .op (.load (p := .scVector (cV L) (jV L)) M2 (Rect.unit (s := S2x128) ![r, o] S1x16.size i0).toLoadRect l2) fun c =>
            .op (.assume (C a b c) (dC a b c)) fun hc =>
              vectorStoreIdx (p := .scVector (cV L) (jV L)) M ![w a b c] (y a b c) (fun _ => 1#1) true (h1 a b c hc) s1 >>= fun _ =>
              vectorStoreIdx (p := .scVector (cV L) (jV L)) N ![w a b c] one (fun _ => 1#1) true (h2 a b c hc) s2 >>= k a b c) Q) := by
  subst hn
  iintro ⟨Hb, Ht⟩ Hk
  iapply (wp_load3 d L) $$ Hb
  iintro Hb
  iapply (wp_assume 𝒱₀ (thr d L) bd Set.univ (hC _ _ _ (hw _ _ _)))
  iapply (wp_group d L A0 A1 A2 b n (by rw [hw, hm]) (by rw [hy, hm]) ho) $$ Ht
  iintro Ht
  iapply Hk
  isplitl [Hb]; · iexact Hb
  iexact Ht

end Cert.Proof.Hist
-- ==== Proof.Trip.lean ====
/-
  One trip of the tile's main loop: the two slots' chunks of 128 points waited for, added to the tables group by
  group, and the slots' next chunks' copies issued.
-/
module

public import proofs.«01_k».proof.Proof.Steps

@[expose] public section

noncomputable section

namespace Cert.Proof.Hist

open Cert.KernelIdeal Cert.KernelIdeal.Gen
open Idealize.ShloMosaic
open Idealize.ShloMosaic.SparseCore (S V T vectorStoreIdx)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev i0 : Flat := Memref.whole main_v0_scv
abbrev i1 : Flat := Memref.whole main_v1_scv
abbrev i2 : Flat := Memref.whole main_v2_scv
abbrev o0 : Memref sig .scVector .hbm S2073600 .f32 := Memref.whole main_v3_0_scv
abbrev o1 : Memref sig .scVector .hbm S2073600 .f32 := Memref.whole main_v3_1_scv
abbrev s0 : Slots := Memref.whole cc0_scratch0
abbrev s1 : Slots := Memref.whole cc0_scratch1
abbrev s2 : Slots := Memref.whole cc0_scratch2
abbrev t0 : Table := Memref.whole cc0_scratch3
abbrev t1 : Table := Memref.whole cc0_scratch4

variable (d : Dev nD) (L : grid0.Coords)
variable (f0 : Buf (Elt F) (i0.view.loc (thr d L))) (f1 : Buf (Elt F) (i1.view.loc (thr d L))) (f2 : Buf (Elt F) (i2.view.loc (thr d L)))

/-- The tile's first point. -/
def base (L : grid0.Coords) : ℕ := 524288 * (L 1).val + 262144 * (L 0).val

/-- Every chunk of the tile lies in the arrays. -/
theorem chunk_le (L : grid0.Coords) {c : ℕ} (hc : c < 2048) : base L + 128 * c + 128 ≤ 8388608 := by
  have h1 : (L 1).val < 16 := (L 1).isLt
  have h0 : (L 0).val < 2 := (L 0).isLt
  unfold base; omega

/-- The units one copy of a window pays. -/
@[irreducible] def copyN : ℕ := (slotM s0 0 inb_S2x128_S1x128_0_0).view.dmaCredit

theorem credit0 (r : ℕ) (h : SlotInb r) : (slotM s0 r h).view.dmaCredit = copyN := by unfold copyN; rfl
theorem credit1 (r : ℕ) (h : SlotInb r) : (slotM s1 r h).view.dmaCredit = copyN := by unfold copyN; rfl
theorem credit2 (r : ℕ) (h : SlotInb r) : (slotM s2 r h).view.dmaCredit = copyN := by unfold copyN; rfl
theorem copyN_pos : 0 < copyN := by unfold copyN; exact View.dmaCredit_pos _ (by decide)

/-- What the three copies of a chunk leave. -/
def D3 (q : PosShare TreeShare) (r : ℕ) (h : SlotInb r) (n : ℕ) (hn : n + 128 ≤ 8388608) : Fin 3 → sProp 𝕄 := fun t =>
  match t with
  | 0 => deliv d L i0 q f0 s0 r h n hn
  | 1 => deliv d L i1 q f1 s1 r h n hn
  | 2 => deliv d L i2 q f2 s2 r h n hn

instance D3_storable (q : PosShare TreeShare) (r : ℕ) (h : SlotInb r) (n : ℕ) (hn : n + 128 ≤ 8388608) (t : Fin 3) :
    BI.Storable (upEmb : UEmb _ 𝕄) (D3 d L f0 f1 f2 q r h n hn t) :=
  match t with
  | 0 => (inferInstance : BI.Storable (upEmb : UEmb _ 𝕄) (deliv d L i0 q f0 s0 r h n hn))
  | 1 => (inferInstance : BI.Storable (upEmb : UEmb _ 𝕄) (deliv d L i1 q f1 s1 r h n hn))
  | 2 => (inferInstance : BI.Storable (upEmb : UEmb _ 𝕄) (deliv d L i2 q f2 s2 r h n hn))

/-- The three inputs, at share `q`. -/
def ins (q : PosShare TreeShare) : sProp 𝕄 :=
  iprop((i0.view.loc (thr d L) ↦{q} f0) ∗ (i1.view.loc (thr d L) ↦{q} f1) ∗ (i2.view.loc (thr d L) ↦{q} f2))

/-- The three slots of row `r`, at any contents. -/
def slotsAny (r : ℕ) (h : SlotInb r) : sProp 𝕄 := iprop(slotAny d L s0 r h ∗ slotAny d L s1 r h ∗ slotAny d L s2 r h)

/-- The three slots of row `r`, at the 128 points from `n` on. -/
def slotsHave (r : ℕ) (h : SlotInb r) (n : ℕ) : sProp 𝕄 :=
  iprop(slotHas d L s0 r h (natA d L i0 f0) n ∗ slotHas d L s1 r h (natA d L i1 f1) n ∗ slotHas d L s2 r h (natA d L i2 f2) n)

/-- A slot with chunk `c`'s copies in flight. -/
def flying (q : PosShare TreeShare) (sm : DmaSem sig) (r : ℕ) (h : SlotInb r) (n : ℕ) (hn : n + 128 ≤ 8388608) : sProp 𝕄 :=
  iprop(Transfers.Batch EC (thr d L) (.dma sm) (default : HIx 1) copyN (D3 d L f0 f1 f2 q r h n hn) 3 0
    ∗ keep d L i0 q f0 n hn ∗ keep d L i1 q f1 n hn ∗ keep d L i2 q f2 n hn)

/-- A slot with no copy in flight. -/
def idle (q : PosShare TreeShare) (sm : DmaSem sig) (r : ℕ) (h : SlotInb r) : sProp 𝕄 :=
  iprop(semVal (thr d L, .dma sm) 0 ∗ slotsAny d L r h ∗ ins d L f0 f1 f2 q)

/-- A slot before chunk `c` is waited for: its copies in flight, or none when there is no such chunk. -/
def slotAt (q : PosShare TreeShare) (sm : DmaSem sig) (r : ℕ) (h : SlotInb r) (c : ℕ) : sProp 𝕄 :=
  if hc : c < 2048 then flying d L f0 f1 f2 q sm r h (base L + 128 * c) (chunk_le L hc) else idle d L f0 f1 f2 q sm r h

/-- The waits made so far were on the tile's own cells. -/
def owing (O : CellTallies nD τ sig (HIx 1)) (W : Waits sig (HIx 1)) : sProp 𝕄 :=
  iprop(∃ W', ⌜∀ p ∈ W', p ∈ W ∨ p.2 = none⌝ ∗ owes (thr d L) O W')

/-- The three waits of a slot. -/
theorem wp_open {bd : Option (𝒱₀).V} {α : Type} {q : PosShare TreeShare} {sm : DmaSem sig} {r : ℕ} {h : SlotInb r} {c : ℕ} (hc : c < 2048)
    {w1 w2 w3 : Memref sig .scVector .hbm S128 .f32}
    {hs1 : w1.view.WordExact} {hs2 : w2.view.WordExact} {hs3 : w3.view.WordExact} {hd1 : (slotM s0 r h).view.WordExact} {hd2 : (slotM s1 r h).view.WordExact} {hd3 : (slotM s2 r h).view.WordExact}
    {O : CellTallies nD τ sig (HIx 1)} {W : Waits sig (HIx 1)}
    {k : PUnit → Prog (TpuEff nD τ sig (Elt F) Λ₀ (.scVector (cV L) (jV L))) α} {Q : α → sProp 𝕄} :
    iprop(slotAt d L f0 f1 f2 q sm r h c ∗ □ Transfers.MayWaits (thr d L) (default : HIx 1) O ∗ owing d L O W)
      ⊢ iprop((iprop(slotsHave d L f0 f1 f2 r h (base L + 128 * c) ∗ semVal (thr d L, .dma sm) 0 ∗ ins d L f0 f1 f2 q ∗ owing d L O W)
          -∗ wp frame (wpE (defs₀ (F := F)) 𝒱₀ (thr d L) bd) Set.univ (k ⟨⟩) Q)
        -∗ wp frame (wpE (defs₀ (F := F)) 𝒱₀ (thr d L) bd) Set.univ
          (.op (.waitDma2 (p := .scVector (cV L) (jV L)) sm w1 (slotM s0 r h) hs1 hd1) fun _ =>
            .op (.waitDma2 (p := .scVector (cV L) (jV L)) sm w2 (slotM s1 r h) hs2 hd2) fun _ =>
            .op (.waitDma2 (p := .scVector (cV L) (jV L)) sm w3 (slotM s2 r h) hs3 hd3) k) Q) := by
  unfold slotAt; rw [dif_pos hc]; unfold flying owing
  iintro ⟨⟨HB, Hk0, Hk1, Hk2⟩, #Hmw, HO⟩ Hk
  iapply (wp_wait3 d L (Ds := D3 d L f0 f1 f2 q r h (base L + 128 * c) (chunk_le L hc)) (W := W) (O := O) copyN (credit0 r h) (credit1 r h) (credit2 r h) copyN_pos) $$ [HB HO]
  · isplitl [HB]; · iexact HB
    isplitr [HO]; · iexact Hmw
    iexact HO
  iintro ⟨⟨H0, H1, H2⟩, Hs, HO⟩
  ihave H0' := (show D3 d L f0 f1 f2 q r h (base L + 128 * c) (chunk_le L hc) 0 ⊢ deliv d L i0 q f0 s0 r h (base L + 128 * c) (chunk_le L hc) from .rfl) $$ H0
  ihave H1' := (show D3 d L f0 f1 f2 q r h (base L + 128 * c) (chunk_le L hc) 1 ⊢ deliv d L i1 q f1 s1 r h (base L + 128 * c) (chunk_le L hc) from .rfl) $$ H1
  ihave H2' := (show D3 d L f0 f1 f2 q r h (base L + 128 * c) (chunk_le L hc) 2 ⊢ deliv d L i2 q f2 s2 r h (base L + 128 * c) (chunk_le L hc) from .rfl) $$ H2
  unfold deliv
  icases H0' with ⟨H0, Hw0⟩
  icases H1' with ⟨H1, Hw1⟩
  icases H2' with ⟨H2, Hw2⟩
  iapply Hk
  unfold slotsHave ins
  isplitl [H0 H1 H2]
  · isplitl [H0]; · iexact H0
    isplitl [H1]; · iexact H1
    iexact H2
  isplitl [Hs]; · iexact Hs
  isplitr [HO]
  swap; · iexact HO
  isplitl [Hw0 Hk0]
  · iapply (keep_join d L i0 q f0 _ (chunk_le L hc)); isplitl [Hw0]; · iexact Hw0
    iexact Hk0
  isplitl [Hw1 Hk1]
  · iapply (keep_join d L i1 q f1 _ (chunk_le L hc)); isplitl [Hw1]; · iexact Hw1
    iexact Hk1
  · iapply (keep_join d L i2 q f2 _ (chunk_le L hc)); isplitl [Hw2]; · iexact Hw2
    iexact Hk2

/-- The three copies of a slot's next chunk. -/
theorem wp_refill {bd : Option (𝒱₀).V} {α : Type} {q : PosShare TreeShare} {sm : DmaSem sig} {r : ℕ} {h : SlotInb r} {c : ℕ} (hc : c < 2048)
    {off : Fin 1 → ℕ} {hin : ∀ a, off a + S128.size a ≤ S8388608.size a} (hoff : off = ![base L + 128 * c])
    {hst : ∀ a, (Rect.unit (s := S8388608) off S128.size hin).stride a = 1}
    {hs1 : (i0.slice (Rect.unit (s := S8388608) off S128.size hin) hst).view.WordExact} {hs2 : (i1.slice (Rect.unit (s := S8388608) off S128.size hin) hst).view.WordExact}
    {hs3 : (i2.slice (Rect.unit (s := S8388608) off S128.size hin) hst).view.WordExact}
    {hd1 : (slotM s0 r h).view.WordExact} {hd2 : (slotM s1 r h).view.WordExact} {hd3 : (slotM s2 r h).view.WordExact}
    {y1 : DmaTarget.Typed (nD := nD) .hbm (SemLoc.dma sm) (DmaTarget.here (p := .scVector (cV L) (jV L)) (slotM s0 r h))}
    {y2 : DmaTarget.Typed (nD := nD) .hbm (SemLoc.dma sm) (DmaTarget.here (p := .scVector (cV L) (jV L)) (slotM s1 r h))}
    {y3 : DmaTarget.Typed (nD := nD) .hbm (SemLoc.dma sm) (DmaTarget.here (p := .scVector (cV L) (jV L)) (slotM s2 r h))}
    {k : PUnit → Prog (TpuEff nD τ sig (Elt F) Λ₀ (.scVector (cV L) (jV L))) α} {Q : α → sProp 𝕄} :
    idle d L f0 f1 f2 q sm r h
      ⊢ iprop((slotAt d L f0 f1 f2 q sm r h c -∗ wp frame (wpE (defs₀ (F := F)) 𝒱₀ (thr d L) bd) Set.univ (k ⟨⟩) Q)
        -∗ wp frame (wpE (defs₀ (F := F)) 𝒱₀ (thr d L) bd) Set.univ
          (.op (.enqueueDma (p := .scVector (cV L) (jV L)) (i0.slice (Rect.unit (s := S8388608) off S128.size hin) hst) (.here (slotM s0 r h)) (.dma sm) hs1 hd1 y1) fun _ =>
            .op (.enqueueDma (p := .scVector (cV L) (jV L)) (i1.slice (Rect.unit (s := S8388608) off S128.size hin) hst) (.here (slotM s1 r h)) (.dma sm) hs2 hd2 y2) fun _ =>
            .op (.enqueueDma (p := .scVector (cV L) (jV L)) (i2.slice (Rect.unit (s := S8388608) off S128.size hin) hst) (.here (slotM s2 r h)) (.dma sm) hs3 hd3 y3) k) Q) := by
  unfold idle slotsAny ins
  iintro ⟨Hsem, ⟨H0, H1, H2⟩, Hi0, Hi1, Hi2⟩ Hk
  imod (Transfers.batch_alloc' EC (thr d L) (default : HIx 1) copyN (D3 d L f0 f1 f2 q r h (base L + 128 * c) (chunk_le L hc)) (sm := .dma sm) (E := Set.univ)) $$ Hsem with HB
  iapply (wp_issue d L (M := i0) (N := s0) hoff (chunk_le L hc) (q := q) (f := f0) (D3 d L f0 f1 f2 q r h (base L + 128 * c) (chunk_le L hc)) 0 0 (by decide) copyN (credit0 r h) (Nat.zero_le _) .rfl) $$ [Hi0 H0 HB]
  · isplitl [Hi0]; · iexact Hi0
    isplitl [H0]; · iexact H0
    iexact HB
  iintro ⟨Hi0, HB⟩
  iapply (wp_issue d L (M := i1) (N := s1) hoff (chunk_le L hc) (q := q) (f := f1) (D3 d L f0 f1 f2 q r h (base L + 128 * c) (chunk_le L hc)) 0 1 (by decide) copyN (credit1 r h) (Nat.zero_le _) .rfl) $$ [Hi1 H1 HB]
  · isplitl [Hi1]; · iexact Hi1
    isplitl [H1]; · iexact H1
    iexact HB
  iintro ⟨Hi1, HB⟩
  iapply (wp_issue d L (M := i2) (N := s2) hoff (chunk_le L hc) (q := q) (f := f2) (D3 d L f0 f1 f2 q r h (base L + 128 * c) (chunk_le L hc)) 0 2 (by decide) copyN (credit2 r h) (Nat.zero_le _) .rfl) $$ [Hi2 H2 HB]
  · isplitl [Hi2]; · iexact Hi2
    isplitl [H2]; · iexact H2
    iexact HB
  iintro ⟨Hi2, HB⟩
  iapply Hk
  unfold slotAt; rw [dif_pos hc]; unfold flying
  isplitl [HB]; · iexact HB
  isplitl [Hi0]; · iexact Hi0
  isplitl [Hi1]; · iexact Hi1
  iexact Hi2

end Cert.Proof.Hist
-- ==== Proof.Payloads.lean ====
/-
  The sixteen groups' pixels: each group computes, in its own order of operations, the pixel of its sixteen points.
-/
module

public import proofs.«01_k».proof.Proof.Index

@[expose] public section

noncomputable section

namespace Cert.Proof.Hist

open Cert.KernelIdeal Cert.KernelIdeal.Gen
open Idealize.ShloMosaic

variable {F : FTy → Type} [FloatOps F]

/-- Sixteen points' pixels, from the two rows of angles. -/
abbrev pixR (x y : Vec F S1x16 .f32) : IVec S16 32 := pixV (shapeCast S16 x shapeCasts_S1x16_S16) (shapeCast S16 y shapeCasts_S1x16_S16)

variable (x y : Vec F S1x16 .f32)

theorem pix_a0 : k0_pay5 (k0_pay1 y) (k0_pay3 x) k0_pay4 = pixR x y := rfl
theorem pix_a1 : k0_pay9 (k0_pay7 x) 359#32 (k0_pay8 y) = pixR x y := rfl
theorem pix_a2 : k0_pay11 x y = pixR x y := rfl
theorem pix_a3 : k0_pay13 x y = pixR x y := rfl
theorem pix_a4 : k0_pay17 (k0_pay14 x) (k0_pay15 y) = pixR x y := rfl
theorem pix_a5 : k0_pay22 (k0_pay18 y) (k0_pay20 x) k0_pay21 = pixR x y := rfl
theorem pix_a6 : k0_pay26 (k0_pay24 x) 359#32 (k0_pay25 y) = pixR x y := rfl
theorem pix_a7 : k0_pay28 x y = pixR x y := rfl
theorem pix_b0 : k0_pay33 (k0_pay29 y) (k0_pay31 x) 179#32 k0_pay32 = pixR x y := rfl
theorem pix_b1 : k0_pay37 (k0_pay35 x) (k0_pay36 y) 0#32 359#32 = pixR x y := rfl
theorem pix_b2 : k0_pay39 x y = pixR x y := rfl
theorem pix_b3 : k0_pay41 x y = pixR x y := rfl
theorem pix_b4 : k0_pay45 (k0_pay42 x) (k0_pay43 y) = pixR x y := rfl
theorem pix_b5 : k0_pay50 (k0_pay46 y) (k0_pay48 x) 179#32 k0_pay49 = pixR x y := rfl
theorem pix_b6 : k0_pay54 (k0_pay52 x) (k0_pay53 y) 0#32 359#32 = pixR x y := rfl
theorem pix_b7 : k0_pay56 x y = pixR x y := rfl

/-- The sixteen ones. -/
theorem ones_eq : (k0_pay58 : FVec F S16 .f32) = fun _ => Scalar.ofBits .f32 0x3F800000#32 := rfl

/-- A group's check: its sixteen pixels are places of both tables. -/
theorem chk_of {w : IVec S16 32} {a b : Vec F S16 .f32} (h : w = pixV a b) :
    (∀ (k : Fin S64800.rank) (i : S16.Idx), ((![w] : Fin 1 → IVec S16 32) k i).toNat < S64800.size k)
      ∧ (∀ (k : Fin S64800.rank) (i : S16.Idx), ((![w] : Fin 1 → IVec S16 32) k i).toNat < S64800.size k) := by
  subst h; exact ⟨pixV_inb a b, pixV_inb a b⟩

end Cert.Proof.Hist
-- ==== Proof.Body.lean ====
/-
  One trip of the tile's main loop, as a step between the loop's states.
-/
module

public import proofs.«01_k».proof.Proof.Trip
public import proofs.«01_k».proof.Proof.Payloads

@[expose] public section

noncomputable section

namespace Cert.Proof.Hist

open Cert.KernelIdeal Cert.KernelIdeal.Gen
open Idealize.ShloMosaic
open Idealize.ShloMosaic.SparseCore (S V T vectorStoreIdx)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (f0 : Buf (Elt F) (i0.view.loc (thr d L))) (f1 : Buf (Elt F) (i1.view.loc (thr d L))) (f2 : Buf (Elt F) (i2.view.loc (thr d L)))

theorem cond1_iff : ∀ t : Fin k0_t2_loop.trips, k0_cond1 t = 1#1 ↔ 2 * t.val + 2 < 2048 := by decide +kernel
theorem cond2_iff : ∀ t : Fin k0_t2_loop.trips, k0_cond2 t = 1#1 ↔ 2 * t.val + 3 < 2048 := by decide +kernel

abbrev A0 : ℕ → F .f32 := natA d L i0 f0
abbrev A1 : ℕ → F .f32 := natA d L i1 f1
abbrev A2 : ℕ → F .f32 := natA d L i2 f2

/-- The two tables after the tile's first `n` points. -/
abbrev tabsAt (n : ℕ) : sProp 𝕄 := tabs d L t0 t1 (A0 d L f0) (A1 d L f1) (A2 d L f2) (base L) n

/-- The loop's state before trip `k`. -/
def tripI (q q' : PosShare TreeShare) (O : CellTallies nD τ sig (HIx 1)) (W : Waits sig (HIx 1)) (k : ℕ) : sProp 𝕄 :=
  iprop(tabsAt d L f0 f1 f2 (256 * k) ∗ slotAt d L f0 f1 f2 q cc0_scratch5.sem 0 inb_S2x128_S1x128_0_0 (2 * k)
    ∗ slotAt d L f0 f1 f2 q' cc0_scratch6.sem 1 inb_S2x128_S1x128_1_0 (2 * k + 1) ∗ owing d L O W)

/-- One group of a chunk: its three loads and its two indexed stores. -/
theorem wp_pt {bd : Option (𝒱₀).V} {α : Type} {r o c : ℕ} {h : SlotInb r}
    {i : ∀ a, (![r, o] : Fin 2 → ℕ) a + S1x16.size a ≤ S2x128.size a}
    {l0 : s0.view.LoadsAt (Rect.unit (s := S2x128) ![r, o] S1x16.size i).toLoadRect}
    {l1 : s1.view.LoadsAt (Rect.unit (s := S2x128) ![r, o] S1x16.size i).toLoadRect}
    {l2 : s2.view.LoadsAt (Rect.unit (s := S2x128) ![r, o] S1x16.size i).toLoadRect}
    (n : ℕ) {n' : ℕ} (hm : 128 * c + o = n) (hn : n + 16 = n')
    {C : Vec F S1x16 .f32 → Vec F S1x16 .f32 → Vec F S1x16 .f32 → Prop} {dC : ∀ x y z, Decidable (C x y z)}
    {w : Vec F S1x16 .f32 → Vec F S1x16 .f32 → Vec F S1x16 .f32 → IVec S16 32} {y : Vec F S1x16 .f32 → Vec F S1x16 .f32 → Vec F S1x16 .f32 → Vec F S16 .f32}
    {h1 h2 : ∀ x y z, PLift (C x y z) → ∀ (k : Fin S64800.rank) (i : S16.Idx), ((![w x y z] : Fin 1 → IVec S16 32) k i).toNat < S64800.size k}
    {m1 : (t0.access (.whole S64800)).Stores Finset.univ} {m2 : (t1.access (.whole S64800)).Stores Finset.univ}
    (hw : ∀ x y z, w x y z = pixV (shapeCast S16 x shapeCasts_S1x16_S16) (shapeCast S16 y shapeCasts_S1x16_S16))
    (hC : ∀ x y z, w x y z = pixV (shapeCast S16 x shapeCasts_S1x16_S16) (shapeCast S16 y shapeCasts_S1x16_S16) → C x y z)
    (hy : ∀ x y' z, y x y' z = shapeCast S16 z shapeCasts_S1x16_S16)
    {k : Vec F S1x16 .f32 → Vec F S1x16 .f32 → Vec F S1x16 .f32 → PUnit → Prog (TpuEff nD τ sig (Elt F) Λ₀ (.scVector (cV L) (jV L))) α} {Q : α → sProp 𝕄} :
    iprop(slotsHave d L f0 f1 f2 r h (base L + 128 * c) ∗ tabsAt d L f0 f1 f2 n)
      ⊢ iprop((iprop(slotsHave d L f0 f1 f2 r h (base L + 128 * c) ∗ tabsAt d L f0 f1 f2 n')
          -∗ wp frame (wpE (defs₀ (F := F)) 𝒱₀ (thr d L) bd) Set.univ
              (k (ldV (A0 d L f0) (base L + 128 * c + o)) (ldV (A1 d L f1) (base L + 128 * c + o)) (ldV (A2 d L f2) (base L + 128 * c + o)) ⟨⟩) Q)
        -∗ wp frame (wpE (defs₀ (F := F)) 𝒱₀ (thr d L) bd) Set.univ
          (.op (.load (p := .scVector (cV L) (jV L)) s0 (Rect.unit (s := S2x128) ![r, o] S1x16.size i).toLoadRect l0) fun a =>
            .op (.load (p := .scVector (cV L) (jV L)) s1 (Rect.unit (s := S2x128) ![r, o] S1x16.size i).toLoadRect l1) fun b =>
            .op (.load (p := .scVector (cV L) (jV L)) s2 (Rect.unit (s := S2x128) ![r, o] S1x16.size i).toLoadRect l2) fun c =>
            .op (.assume (C a b c) (dC a b c)) fun hc =>
              vectorStoreIdx (p := .scVector (cV L) (jV L)) t0 ![w a b c] (y a b c) (fun _ => 1#1) true (h1 a b c hc) m1 >>= fun _ =>
              vectorStoreIdx (p := .scVector (cV L) (jV L)) t1 ![w a b c] k0_pay58 (fun _ => 1#1) true (h2 a b c hc) m2 >>= k a b c) Q) :=
  wp_points d L (A0 := A0 d L f0) (A1 := A1 d L f1) (A2 := A2 d L f2) (m := base L + 128 * c) (b := base L) (n := n) (n' := n') (by omega) hn hw hy ones_eq hC

theorem guard_bind {E : Type → Type} {α β : Type} {c : Prop} [Decidable c] (A : c → Prog E α) (B : ¬ c → Prog E α) (k : α → Prog E β) :
    (dite c A B >>= k) = dite c (fun h => A h >>= k) fun h => B h >>= k := by
  by_cases h : c
  · rw [dif_pos h, dif_pos h]
  · rw [dif_neg h, dif_neg h]

/-- A guarded step whose two branches go on alike. -/
theorem wp_guard {bd : Option (𝒱₀).V} {α : Type} {c : Prop} [Decidable c] {P S : sProp 𝕄} {Q : α → sProp 𝕄}
    {A : c → Prog (TpuEff nD τ sig (Elt F) Λ₀ (.scVector (cV L) (jV L))) α} {B : Prog (TpuEff nD τ sig (Elt F) Λ₀ (.scVector (cV L) (jV L))) α}
    (hp : ∀ h : c, P ⊢ iprop((S -∗ wp frame (wpE (defs₀ (F := F)) 𝒱₀ (thr d L) bd) Set.univ B Q)
      -∗ wp frame (wpE (defs₀ (F := F)) 𝒱₀ (thr d L) bd) Set.univ (A h) Q)) (hn : ¬ c → P ⊢ S) :
    P ⊢ iprop((S -∗ wp frame (wpE (defs₀ (F := F)) 𝒱₀ (thr d L) bd) Set.univ B Q)
      -∗ wp frame (wpE (defs₀ (F := F)) 𝒱₀ (thr d L) bd) Set.univ (dite c A fun _ => B) Q) := by
  by_cases h : c
  · rw [dif_pos h]; exact hp h
  · rw [dif_neg h]
    iintro HP Hk
    iapply Hk
    iapply (hn h)
    iexact HP

theorem slotsHave_any {r : ℕ} {h : SlotInb r} {n : ℕ} : slotsHave d L f0 f1 f2 r h n ⊢ slotsAny d L r h := by
  unfold slotsHave slotsAny
  iintro ⟨H0, H1, H2⟩
  isplitl [H0]; · iapply (slotHas_any d L); iexact H0
  isplitl [H1]; · iapply (slotHas_any d L); iexact H1
  iapply (slotHas_any d L); iexact H2

set_option maxHeartbeats 1000000 in
theorem trip (q q' : PosShare TreeShare) (O : CellTallies nD τ sig (HIx 1)) (W : Waits sig (HIx 1)) (k : Fin k0_t2_loop.trips) (acc v2 : BitVec 32) :
    iprop(□ Transfers.MayWaits (thr d L) (default : HIx 1) O ∗ tripI d L f0 f1 f2 q q' O W k.val)
      ⊢ wp frame (wpE (defs₀ (F := F)) 𝒱₀ (thr d L) none) Set.univ
          (k0_t2_body L i0 (Memref.isWhole_whole _) i1 (Memref.isWhole_whole _) i2 (Memref.isWhole_whole _) o0 (Memref.isWhole_whole _) o1 (Memref.isWhole_whole _)
            s0 (Memref.isWhole_whole _) s1 (Memref.isWhole_whole _) s2 (Memref.isWhole_whole _) t0 (Memref.isWhole_whole _) t1 (Memref.isWhole_whole _)
            cc0_scratch5 cc0_scratch6 cc0_scoped0 cc0_scoped1 v2 k0_pay58 k acc)
          fun _ => tripI d L f0 f1 f2 q q' O W (k.val + 1) := by
  have hk : k.val < 1024 := k.isLt
  unfold k0_t2_body
  unfold tripI
  iintro ⟨#Hmw, Ht, Hs0, Hs1, HO⟩
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, bind_assoc]
  iapply (wp_open d L f0 f1 f2 (q := q) (c := 2 * k.val) (W := W) (O := O) (by omega)) $$ [Hs0 HO]
  · isplitl [Hs0]; · iexact Hs0
    isplitr [HO]; · iexact Hmw
    iexact HO
  iintro ⟨Hb, Hsem, Hin, HO⟩
  icombine Hb Ht as H
  iapply (wp_pt d L f0 f1 f2 (c := 2 * k.val) (256 * k.val + 0) (n' := 256 * k.val + 16) (by omega) (by omega) (fun a b _ => pix_a0 a b) (fun _ _ _ => chk_of) fun _ _ _ => rfl) $$ H
  iintro H
  iapply (wp_pt d L f0 f1 f2 (c := 2 * k.val) (256 * k.val + 16) (n' := 256 * k.val + 32) (by omega) (by omega) (fun a b _ => pix_a1 a b) (fun _ _ _ => chk_of) fun _ _ _ => rfl) $$ H
  iintro H
  iapply (wp_pt d L f0 f1 f2 (c := 2 * k.val) (256 * k.val + 32) (n' := 256 * k.val + 48) (by omega) (by omega) (fun a b _ => pix_a2 a b) (fun _ _ _ => chk_of) fun _ _ _ => rfl) $$ H
  iintro H
  iapply (wp_pt d L f0 f1 f2 (c := 2 * k.val) (256 * k.val + 48) (n' := 256 * k.val + 64) (by omega) (by omega) (fun a b _ => pix_a3 a b) (fun _ _ _ => chk_of) fun _ _ _ => rfl) $$ H
  iintro H
  iapply (wp_pt d L f0 f1 f2 (c := 2 * k.val) (256 * k.val + 64) (n' := 256 * k.val + 80) (by omega) (by omega) (fun a b _ => pix_a4 a b) (fun _ _ _ => chk_of) fun _ _ _ => rfl) $$ H
  iintro H
  iapply (wp_pt d L f0 f1 f2 (c := 2 * k.val) (256 * k.val + 80) (n' := 256 * k.val + 96) (by omega) (by omega) (fun a b _ => pix_a5 a b) (fun _ _ _ => chk_of) fun _ _ _ => rfl) $$ H
  iintro H
  iapply (wp_pt d L f0 f1 f2 (c := 2 * k.val) (256 * k.val + 96) (n' := 256 * k.val + 112) (by omega) (by omega) (fun a b _ => pix_a6 a b) (fun _ _ _ => chk_of) fun _ _ _ => rfl) $$ H
  iintro H
  iapply (wp_pt d L f0 f1 f2 (c := 2 * k.val) (256 * k.val + 112) (n' := 256 * k.val + 128) (by omega) (by omega) (fun a b _ => pix_a7 a b) (fun _ _ _ => chk_of) fun _ _ _ => rfl) $$ H
  iintro H
  icases H with ⟨Hb, Ht⟩
  simp only [k0_part8_eq_skeleton]
  unfold k0_part8_skel
  simp only [guard_bind, Prog.lift, Prog.bind_op, Prog.bind_ret, Prog.pure_eq_ret, bind_assoc]
  iapply (wp_guard d L (P := idle d L f0 f1 f2 q cc0_scratch5.sem 0 inb_S2x128_S1x128_0_0) (S := slotAt d L f0 f1 f2 q cc0_scratch5.sem 0 inb_S2x128_S1x128_0_0 (2 * (k.val + 1)))
    (fun h => wp_refill d L f0 f1 f2 (c := 2 * (k.val + 1)) (by have := (cond1_iff k).1 h; omega)
      (by rw [k0_off4_eq]; unfold base; congr 1; omega))
    (fun h => by unfold slotAt; rw [dif_neg (fun hc => h ((cond1_iff k).2 (by omega)))])) $$ [Hb Hsem Hin]
  · unfold idle
    isplitl [Hsem]; · iexact Hsem
    isplitl [Hb]; · iapply (slotsHave_any d L f0 f1 f2); iexact Hb
    iexact Hin
  iintro Hs0
  simp only [k0_part9_eq_skeleton, k0_part10_eq_skeleton, k0_part11_eq_skeleton, k0_part12_eq_skeleton, k0_part13_eq_skeleton, k0_part14_eq_skeleton]
  unfold k0_part9_skel k0_part10_skel k0_part11_skel k0_part12_skel k0_part13_skel k0_part14_skel
  simp only [Prog.lift, Prog.bind_op, Prog.bind_ret, Prog.pure_eq_ret, bind_assoc]
  iapply (wp_open d L f0 f1 f2 (q := q') (c := 2 * k.val + 1) (W := W) (O := O) (by omega)) $$ [Hs1 HO]
  · isplitl [Hs1]; · iexact Hs1
    isplitr [HO]; · iexact Hmw
    iexact HO
  iintro ⟨Hb, Hsem, Hin, HO⟩
  icombine Hb Ht as H
  iapply (wp_pt d L f0 f1 f2 (c := 2 * k.val + 1) (256 * k.val + 128) (n' := 256 * k.val + 144) (by omega) (by omega) (fun a b _ => pix_b0 a b) (fun _ _ _ => chk_of) fun _ _ _ => rfl) $$ H
  iintro H
  iapply (wp_pt d L f0 f1 f2 (c := 2 * k.val + 1) (256 * k.val + 144) (n' := 256 * k.val + 160) (by omega) (by omega) (fun a b _ => pix_b1 a b) (fun _ _ _ => chk_of) fun _ _ _ => rfl) $$ H
  iintro H
  iapply (wp_pt d L f0 f1 f2 (c := 2 * k.val + 1) (256 * k.val + 160) (n' := 256 * k.val + 176) (by omega) (by omega) (fun a b _ => pix_b2 a b) (fun _ _ _ => chk_of) fun _ _ _ => rfl) $$ H
  iintro H
  iapply (wp_pt d L f0 f1 f2 (c := 2 * k.val + 1) (256 * k.val + 176) (n' := 256 * k.val + 192) (by omega) (by omega) (fun a b _ => pix_b3 a b) (fun _ _ _ => chk_of) fun _ _ _ => rfl) $$ H
  iintro H
  iapply (wp_pt d L f0 f1 f2 (c := 2 * k.val + 1) (256 * k.val + 192) (n' := 256 * k.val + 208) (by omega) (by omega) (fun a b _ => pix_b4 a b) (fun _ _ _ => chk_of) fun _ _ _ => rfl) $$ H
  iintro H
  iapply (wp_pt d L f0 f1 f2 (c := 2 * k.val + 1) (256 * k.val + 208) (n' := 256 * k.val + 224) (by omega) (by omega) (fun a b _ => pix_b5 a b) (fun _ _ _ => chk_of) fun _ _ _ => rfl) $$ H
  iintro H
  iapply (wp_pt d L f0 f1 f2 (c := 2 * k.val + 1) (256 * k.val + 224) (n' := 256 * k.val + 240) (by omega) (by omega) (fun a b _ => pix_b6 a b) (fun _ _ _ => chk_of) fun _ _ _ => rfl) $$ H
  iintro H
  iapply (wp_pt d L f0 f1 f2 (c := 2 * k.val + 1) (256 * k.val + 240) (n' := 256 * k.val + 256) (by omega) (by omega) (fun a b _ => pix_b7 a b) (fun _ _ _ => chk_of) fun _ _ _ => rfl) $$ H
  iintro H
  icases H with ⟨Hb, Ht⟩
  iapply (wp_guard d L (P := idle d L f0 f1 f2 q' cc0_scratch6.sem 1 inb_S2x128_S1x128_1_0) (S := slotAt d L f0 f1 f2 q' cc0_scratch6.sem 1 inb_S2x128_S1x128_1_0 (2 * (k.val + 1) + 1))
    (fun h => wp_refill d L f0 f1 f2 (c := 2 * (k.val + 1) + 1) (by have := (cond2_iff k).1 h; omega)
      (by rw [k0_off6_eq]; unfold base; congr 1; omega))
    (fun h => by unfold slotAt; rw [dif_neg (fun hc => h ((cond2_iff k).2 (by omega)))])) $$ [Hb Hsem Hin]
  · unfold idle
    isplitl [Hsem]; · iexact Hsem
    isplitl [Hb]; · iapply (slotsHave_any d L f0 f1 f2); iexact Hb
    iexact Hin
  iintro Hs1
  rw [wp_ret]
  imodintro
  isplitl [Ht]; · iexact Ht
  isplitl [Hs0]; · iexact Hs0
  isplitl [Hs1]; · iexact Hs1
  iexact HO

end Cert.Proof.Hist
-- ==== Proof.Zero.lean ====
/-
  Clearing a table, and writing a table out to its row of a result.
-/
module

public import proofs.«01_k».proof.Proof.Trip
public import proofs.«01_k».proof.Proof.Payloads

@[expose] public section

noncomputable section

namespace Cert.Proof.Hist

open Cert.KernelIdeal Cert.KernelIdeal.Gen
open Idealize.ShloMosaic
open Idealize.ShloMosaic.SparseCore (S V T vectorStoreIdx)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- A table is held and its first `16 * k` entries are zero. -/
def zeroed (M : Table) (k : ℕ) : sProp 𝕄 :=
  iprop(∃ f, (M.view.loc (thr d L) ↦[M.view.set]{fullShare} f) ∗ ⌜∀ y : S64800.Idx, (y 0).val < 16 * k → M.view.read (Elt F) f y = zeroF⌝)

/-- Sixteen more entries cleared. -/
theorem wp_zero {bd : Option (𝒱₀).V} {α : Type} {M : Table} {k : ℕ} {off : Fin 1 → ℕ} {hin : ∀ a, off a + S16.size a ≤ S64800.size a}
    (hoff : off = ![16 * k])
    {l : M.view.LoadsAt (Rect.unit (s := S64800) off S16.size hin).toLoadRect}
    {st : (M.access (Rect.unit (s := S64800) off S16.size hin)).Stores Finset.univ}
    {hm : (Finset.univ : Finset (Rect.unit (s := S64800) off S16.size hin).shape.Idx) = Finset.univ ∨ ∀ a, (Rect.unit (s := S64800) off S16.size hin).stride a = 1}
    {kk : Vec F S16 .f32 → PUnit → Prog (TpuEff nD τ sig (Elt F) Λ₀ (.scVector (cV L) (jV L))) α} {Q : α → sProp 𝕄} :
    zeroed d L M k
      ⊢ iprop((∀ a, zeroed d L M (k + 1) -∗ wp frame (wpE (defs₀ (F := F)) 𝒱₀ (thr d L) bd) Set.univ (kk a ⟨⟩) Q)
        -∗ wp frame (wpE (defs₀ (F := F)) 𝒱₀ (thr d L) bd) Set.univ
          (.op (.load (p := .scVector (cV L) (jV L)) M (Rect.unit (s := S64800) off S16.size hin).toLoadRect l) fun a =>
            .op (.store (p := .scVector (cV L) (jV L)) M (Rect.unit (s := S64800) off S16.size hin) k0_pay57 Finset.univ st hm) (kk a)) Q) := by
  subst hoff
  unfold zeroed
  iintro ⟨%f, H, %e⟩ Hk
  iapply (wp_load 𝒱₀ (thr d L) bd Set.univ (m := M) (S := M.view.set) (View.setOn_subset_set _ _)) $$ H
  iintro H
  iapply (wp_store_writes₀ 𝒱₀ (thr d L) bd Set.univ (m := M) (S := M.view.set) (M.view.set_slice_subset _)) $$ H
  iintro H
  iapply Hk
  iexists _
  isplitl [H]; · iexact H
  ipureintro
  intro y hy
  by_cases h : (y 0).val < 16 * k
  · rw [View.read_writes_cons_miss_of_axis M.view f _ _ y 0 (16 * k) 16 rfl rfl rfl (.inl h)]
    exact e y h
  · refine (View.read_writes_cons_hit_of_coords M.view f _ _ _ (Shape.ofLane ⟨(y 0).val - 16 * k, show (y 0).val - 16 * k < 16 by omega⟩) y ?_).trans rfl
    intro a
    obtain rfl : a = 0 := Subsingleton.elim _ _
    show (y 0).val = 16 * k + 1 * ((y 0).val - 16 * k)
    omega

/-- A table is held, at `X`, as a copy's source names it. -/
def tabFull (M : Table) (X : Vec F S64800 .f32) : sProp 𝕄 :=
  iprop(∃ f, (M.view.loc (thr d L) ↦[M.view.set]{fullShare} f) ∗ ⌜M.view.read (Elt F) f = X⌝)

theorem access_set (M : Table) : (M.access (.whole S64800)).set = M.view.set := by
  show (M.view.slice (.whole S64800)).set = _
  rw [View.set_slice]
  show Finset.map _ (Rect.whole S64800).set = _
  rw [Rect.set_whole]; rfl

theorem access_read (M : Table) (f : M.view.ty.Contents (Elt F)) :
    (M.access (.whole S64800)).read (Elt F) f = M.view.read (Elt F) f := by
  funext y
  show M.view.read (Elt F) f ((Rect.whole S64800).emb y) = _
  congr 1
  funext a
  apply Fin.ext
  show 0 + 1 * (y a).val = (y a).val
  omega

theorem tabHas_eq (M : Table) (X : Vec F S64800 .f32) : tabHas d L M X = tabFull d L M X := by
  unfold tabHas tabFull
  simp only [access_read]
  rw [access_set]

theorem zeroed_tab (M : Table) : zeroed (F := F) d L M 4050 ⊢ tabHas d L M fun _ => zeroF := by
  rw [tabHas_eq]; unfold zeroed tabFull
  iintro ⟨%f, H, %e⟩
  iexists f
  isplitl [H]; · iexact H
  ipureintro
  funext y
  have hy : (y 0).val < 64800 := (y 0).isLt
  exact e y (by omega)

abbrev Rows : Type := Memref sig .scVector .hbm S2073600 .f32

/-- The tile's row of a result, as the kernel names it. -/
abbrev rowM (N : Rows) (L : grid0.Coords) : Memref sig .scVector .hbm S64800 .f32 :=
  N.slice (Rect.unit (s := S2073600) (k0_off7 L) S64800.size (k0_off7_inb L)) (fun _ => rfl)

/-- The tile's row of a result is held and is `X`. -/
def rowHas (N : Rows) (X : Vec F S64800 .f32) : sProp 𝕄 :=
  iprop(∃ f, ((rowM N L).view.loc (thr d L) ↦[(rowM N L).view.set]{fullShare} f) ∗ ⌜(rowM N L).view.read (Elt F) f = X⌝)

/-- A table copied to the tile's row of a result, and the wait for it. -/
theorem wp_out {bd : Option (𝒱₀).V} {α : Type} {M : Table} {N : Rows} {sm : DmaSem sig} {X : Vec F S64800 .f32}
    {hs1 : M.view.WordExact} {hd1 : (rowM N L).view.WordExact} {hs2 : M.view.WordExact} {hd2 : (rowM N L).view.WordExact}
    {y : DmaTarget.Typed (nD := nD) .vmem (SemLoc.dma sm) (DmaTarget.here (p := .scVector (cV L) (jV L)) (rowM N L))}
    {g : Buf (Elt F) ((rowM N L).view.loc (thr d L))}
    {O : CellTallies nD τ sig (HIx 1)} {W : Waits sig (HIx 1)}
    {k : PUnit → Prog (TpuEff nD τ sig (Elt F) Λ₀ (.scVector (cV L) (jV L))) α} {Q : α → sProp 𝕄} :
    iprop(tabHas d L M X ∗ ((rowM N L).view.loc (thr d L) ↦[(rowM N L).view.set]{fullShare} g) ∗ semVal (thr d L, .dma sm) 0
        ∗ □ Transfers.MayWaits (thr d L) (default : HIx 1) O ∗ owing d L O W)
      ⊢ iprop((iprop(tabHas d L M X ∗ rowHas d L N X ∗ semVal (thr d L, .dma sm) 0 ∗ owing d L O W)
          -∗ wp frame (wpE (defs₀ (F := F)) 𝒱₀ (thr d L) bd) Set.univ (k ⟨⟩) Q)
        -∗ wp frame (wpE (defs₀ (F := F)) 𝒱₀ (thr d L) bd) Set.univ
          (.op (.enqueueDma (p := .scVector (cV L) (jV L)) M (.here (rowM N L)) (.dma sm) hs1 hd1 y) fun _ =>
            .op (.waitDma2 (p := .scVector (cV L) (jV L)) sm M (rowM N L) hs2 hd2) k) Q) := by
  rw [tabHas_eq]
  unfold tabFull owing
  iintro ⟨⟨%f, HM, %e⟩, HN, Hs, #Hmw, %W', %hW, HO⟩ Hk
  iapply (Transfers.wp_dmaLocal EC 𝒱₀ (thr d L) bd (src := M) (via := .same) (dst := rowM N L) (sm := .dma sm) (Sd := (rowM N L).view.set) (q := fullShare) (fs := f) (fd := g)
    (default : HIx 1) ((rowM N L).view.amount (.dma sm)) rfl (View.dmaCredit_pos _ (by decide)) (Finset.Subset.refl _)) $$ [HM HN Hs]
  · isplitl [HM]; · iexact HM
    isplitl [HN]; · iexact HN
    iexact Hs
  iintro Hf
  iapply (Transfers.wp_waitLocalO EC 𝒱₀ (thr d L) bd (default : HIx 1) (N := (rowM N L).view.amount (.dma sm)) rfl) $$ [Hf HO]
  · isplitl [Hf]; · iexact Hf
    isplitl [HO]; · iexact HO
    iapply (Transfers.MayWaits.elim (SemLoc.dma sm)) $$ Hmw
  iintro ⟨⟨HN, HM⟩, Hs, HO⟩
  iapply Hk
  isplitl [HM]
  · iexists f; isplitl [HM]; · iexact HM
    ipureintro; exact e
  isplitl [HN]
  · unfold rowHas
    iexists _; isplitl [HN]; · iexact HN
    ipureintro
    rw [View.read_write_univ]
    exact e
  isplitl [Hs]; · iexact Hs
  iexists _; isplitr
  swap; · iexact HO
  ipureintro; intro p hp
  rcases Finset.mem_insert.mp hp with hp | hp; · exact .inr (hp ▸ rfl)
  exact hW p hp

end Cert.Proof.Hist
-- ==== Proof.Tile.lean ====
/-
  One tile's whole task: its two tables cleared, its points added to them, both tables written to the tile's rows.
-/
module

public import proofs.«01_k».proof.Proof.Body
public import proofs.«01_k».proof.Proof.Zero

@[expose] public section

noncomputable section

namespace Cert.Proof.Hist

open Cert.KernelIdeal Cert.KernelIdeal.Gen
open Idealize.ShloMosaic
open Idealize.ShloMosaic.SparseCore (S V T vectorStoreIdx)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (f0 : Buf (Elt F) (i0.view.loc (thr d L))) (f1 : Buf (Elt F) (i1.view.loc (thr d L))) (f2 : Buf (Elt F) (i2.view.loc (thr d L)))

/-! ## A pair of slots, by rows -/

theorem slot_set (M : Slots) (r : ℕ) (h : SlotInb r) :
    (slotM M r h).view.set = (Rect.unit (s := S2x128) ![r, 0] S1x128.size h).set.map M.view.emb := by
  show ((M.view.slice (Rect.unit (s := S2x128) ![r, 0] S1x128.size h)).reshape S128 squeezes_S1x128_S128.numel_eq).set = _
  rw [View.set_reshape, View.set_slice]

theorem slots_disj (M : Slots) : Disjoint (slotM M 0 inb_S2x128_S1x128_0_0).view.set (slotM M 1 inb_S2x128_S1x128_1_0).view.set := by
  rw [slot_set, slot_set, Finset.disjoint_map, Finset.disjoint_left]
  intro j h0 h1
  rw [Rect.mem_set_unit] at h0 h1
  have a : 0 ≤ (j 0).val ∧ (j 0).val < 0 + 1 := h0 0
  have b : 1 ≤ (j 0).val ∧ (j 0).val < 1 + 1 := h1 0
  omega

theorem slots_rects : (Rect.unit (s := S2x128) ![0, 0] S1x128.size inb_S2x128_S1x128_0_0).set ∪ (Rect.unit (s := S2x128) ![1, 0] S1x128.size inb_S2x128_S1x128_1_0).set = Finset.univ := by
  ext j
  simp only [Finset.mem_union, Finset.mem_univ, iff_true, Rect.mem_set_unit]
  have h0 : (j 0).val < 2 := (j 0).isLt
  have h1 : (j 1).val < 128 := (j 1).isLt
  by_cases h : (j 0).val = 0
  · left; intro a
    match a with
    | 0 => show 0 ≤ (j 0).val ∧ (j 0).val < 0 + 1; omega
    | 1 => show 0 ≤ (j 1).val ∧ (j 1).val < 0 + 128; omega
  · right; intro a
    match a with
    | 0 => show 1 ≤ (j 0).val ∧ (j 0).val < 1 + 1; omega
    | 1 => show 0 ≤ (j 1).val ∧ (j 1).val < 0 + 128; omega

theorem slots_union (M : Slots) (hM : M.view.set = Finset.univ) :
    (slotM M 0 inb_S2x128_S1x128_0_0).view.set ∪ (slotM M 1 inb_S2x128_S1x128_1_0).view.set = Finset.univ := by
  have e : (Rect.unit (s := S2x128) ![0, 0] S1x128.size inb_S2x128_S1x128_0_0).set ∪ (Rect.unit (s := S2x128) ![1, 0] S1x128.size inb_S2x128_S1x128_1_0).set = Finset.univ := slots_rects
  rw [slot_set, slot_set, ← Finset.map_union, e]; exact hM

/-- A pair of slots held whole is its two slots. -/
theorem slots_split (M : Slots) (hM : M.view.set = Finset.univ) :
    iprop(∃ f, M.view.loc (thr d L) ↦{fullShare} f) ⊢ (iprop(slotAny d L M 0 inb_S2x128_S1x128_0_0 ∗ slotAny d L M 1 inb_S2x128_S1x128_1_0) : sProp 𝕄) := by
  unfold slotAny
  iintro ⟨%f, H⟩
  rw [← slots_union M hM]
  ihave H' := (pointsTo_union (q := fullShare) (f := f) (slots_disj M)).1 $$ H
  icases H' with ⟨H0, H1⟩
  isplitl [H0]
  · iexists f; iexact H0
  · iexists f; iexact H1

theorem slots_join (M : Slots) (hM : M.view.set = Finset.univ) :
    (iprop(slotAny d L M 0 inb_S2x128_S1x128_0_0 ∗ slotAny d L M 1 inb_S2x128_S1x128_1_0) : sProp 𝕄) ⊢ iprop(∃ f, M.view.loc (thr d L) ↦{fullShare} f) := by
  unfold slotAny
  iintro ⟨⟨%f, H0⟩, ⟨%g, H1⟩⟩
  iexists _
  rw [← slots_union M hM]
  iapply (pointsTo_join (slots_disj M))
  isplitl [H0]; · iexact H0
  iexact H1

/-! ## What the tile owns -/

theorem bigSep_five {T : Type} [DecidableEq T] (s : Finset T) (Φ : T → sProp 𝕄) {a b c e g : T} (ha : a ∈ s) (hb : b ∈ s) (hc : c ∈ s) (he : e ∈ s) (hg : g ∈ s)
    (h : [a, b, c, e, g].Nodup) :
    ∃ R : sProp 𝕄, bigSep s Φ = iprop(Φ a ∗ Φ b ∗ Φ c ∗ Φ e ∗ Φ g ∗ R) := by
  refine ⟨bigSep (((((s.erase a).erase b).erase c).erase e).erase g) Φ, ?_⟩
  simp only [List.nodup_cons, List.mem_cons, List.not_mem_nil, or_false, not_or, List.nodup_nil, and_true, not_false_eq_true] at h
  obtain ⟨⟨ab, ac, ae, ag⟩, ⟨bc, be, bg⟩, ⟨ce, cg⟩, eg⟩ := h
  rw [SparseCore.bigSep_erase' ha, SparseCore.bigSep_erase' (Finset.mem_erase.mpr ⟨Ne.symm ab, hb⟩),
    SparseCore.bigSep_erase' (Finset.mem_erase.mpr ⟨Ne.symm bc, Finset.mem_erase.mpr ⟨Ne.symm ac, hc⟩⟩),
    SparseCore.bigSep_erase' (Finset.mem_erase.mpr ⟨Ne.symm ce, Finset.mem_erase.mpr ⟨Ne.symm be, Finset.mem_erase.mpr ⟨Ne.symm ae, he⟩⟩⟩),
    SparseCore.bigSep_erase' (Finset.mem_erase.mpr ⟨Ne.symm eg, Finset.mem_erase.mpr ⟨Ne.symm cg, Finset.mem_erase.mpr ⟨Ne.symm bg, Finset.mem_erase.mpr ⟨Ne.symm ag, hg⟩⟩⟩⟩)]

theorem bigSep_four {T : Type} [DecidableEq T] (s : Finset T) (Φ : T → sProp 𝕄) {a b c e : T} (ha : a ∈ s) (hb : b ∈ s) (hc : c ∈ s) (he : e ∈ s)
    (h : [a, b, c, e].Nodup) :
    ∃ R : sProp 𝕄, bigSep s Φ = iprop(Φ a ∗ Φ b ∗ Φ c ∗ Φ e ∗ R) := by
  refine ⟨bigSep ((((s.erase a).erase b).erase c).erase e) Φ, ?_⟩
  simp only [List.nodup_cons, List.mem_cons, List.not_mem_nil, or_false, not_or, List.nodup_nil, and_true, not_false_eq_true] at h
  obtain ⟨⟨ab, ac, ae⟩, ⟨bc, be⟩, ce⟩ := h
  rw [SparseCore.bigSep_erase' ha, SparseCore.bigSep_erase' (Finset.mem_erase.mpr ⟨Ne.symm ab, hb⟩),
    SparseCore.bigSep_erase' (Finset.mem_erase.mpr ⟨Ne.symm bc, Finset.mem_erase.mpr ⟨Ne.symm ac, hc⟩⟩),
    SparseCore.bigSep_erase' (Finset.mem_erase.mpr ⟨Ne.symm ce, Finset.mem_erase.mpr ⟨Ne.symm be, Finset.mem_erase.mpr ⟨Ne.symm ae, he⟩⟩⟩)]

abbrev cell (s : DmaSems sig S_) : GSem nD τ sig := (thr d L, .dma s.sem)

theorem cell_mem (s : DmaSems sig S_) (h : (SemLoc.dma s.sem : SemLoc sig).isScoped .scVector = true) : cell d L s ∈ ownCells (thr d L) :=
  mem_ownCells.mpr ⟨rfl, h⟩

theorem sems_V : ∃ R : sProp 𝕄, (ownSems0 (thr d L) : sProp 𝕄)
    = iprop(semVal (cell d L cc0_scratch5) 0 ∗ semVal (cell d L cc0_scratch6) 0 ∗ semVal (cell d L cc0_scoped0) 0 ∗ semVal (cell d L cc0_scoped1) 0 ∗ R) := by
  unfold SparseCore.Cfg.ownSems0
  refine bigSep_four _ _ (cell_mem d L _ (by decide)) (cell_mem d L _ (by decide)) (cell_mem d L _ (by decide)) (cell_mem d L _ (by decide)) ?_
  have h : [(SemLoc.dma cc0_scratch5.sem : SemLoc sig), .dma cc0_scratch6.sem, .dma cc0_scoped0.sem, .dma cc0_scoped1.sem].Nodup := by decide
  exact h.map (f := fun s => ((thr d L, s) : GSem nD τ sig)) fun a b e => (Prod.mk.inj e).2

theorem bufs_V : ∃ R : sProp 𝕄, (ownBufs (thr d L) : sProp 𝕄)
    = iprop((∃ f, s0.view.loc (thr d L) ↦{fullShare} f) ∗ (∃ f, s1.view.loc (thr d L) ↦{fullShare} f) ∗ (∃ f, s2.view.loc (thr d L) ↦{fullShare} f)
        ∗ (∃ f, t0.view.loc (thr d L) ↦{fullShare} f) ∗ (∃ f, t1.view.loc (thr d L) ↦{fullShare} f) ∗ R) := by
  unfold SparseCore.Cfg.ownBufs
  have h : [(cc0_scratch0 : Ref sig .scVector), cc0_scratch1, cc0_scratch2, cc0_scratch3, cc0_scratch4].Nodup := by decide
  exact bigSep_five _ _ (a := (Proc.scVector (cV L) (jV L)).devRef cc0_scratch0) (b := (Proc.scVector (cV L) (jV L)).devRef cc0_scratch1)
    (c := (Proc.scVector (cV L) (jV L)).devRef cc0_scratch2) (e := (Proc.scVector (cV L) (jV L)).devRef cc0_scratch3) (g := (Proc.scVector (cV L) (jV L)).devRef cc0_scratch4)
    (SparseCore.Cfg.mem_ownRefs_of_owner (p := Proc.scVector (cV L) (jV L)) rfl) (SparseCore.Cfg.mem_ownRefs_of_owner (p := Proc.scVector (cV L) (jV L)) rfl)
    (SparseCore.Cfg.mem_ownRefs_of_owner (p := Proc.scVector (cV L) (jV L)) rfl) (SparseCore.Cfg.mem_ownRefs_of_owner (p := Proc.scVector (cV L) (jV L)) rfl)
    (SparseCore.Cfg.mem_ownRefs_of_owner (p := Proc.scVector (cV L) (jV L)) rfl) (h.map (f := (Proc.scVector (cV L) (jV L)).devRef) (Proc.devRef_injective _))

/-! ## The task -/

theorem ins_halve (q : PosShare TreeShare) : ins d L f0 f1 f2 q ⊢ iprop(ins d L f0 f1 f2 q.left ∗ ins d L f0 f1 f2 q.right) := by
  unfold ins
  iintro ⟨H0, H1, H2⟩
  ihave H0' := (pointsTo_share (PosShare.mem_left_op_right q)).1 $$ H0
  ihave H1' := (pointsTo_share (PosShare.mem_left_op_right q)).1 $$ H1
  ihave H2' := (pointsTo_share (PosShare.mem_left_op_right q)).1 $$ H2
  icases H0' with ⟨A0, B0⟩
  icases H1' with ⟨A1, B1⟩
  icases H2' with ⟨A2, B2⟩
  isplitl [A0 A1 A2]
  · isplitl [A0]; · iexact A0
    isplitl [A1]; · iexact A1
    iexact A2
  · isplitl [B0]; · iexact B0
    isplitl [B1]; · iexact B1
    iexact B2

theorem ins_whole (q : PosShare TreeShare) : iprop(ins d L f0 f1 f2 q.left ∗ ins d L f0 f1 f2 q.right) ⊢ ins d L f0 f1 f2 q := by
  unfold ins
  iintro ⟨⟨A0, A1, A2⟩, B0, B1, B2⟩
  isplitl [A0 B0]
  · iapply (pointsTo_share (PosShare.mem_left_op_right q)).2; isplitl [A0]; · iexact A0
    iexact B0
  isplitl [A1 B1]
  · iapply (pointsTo_share (PosShare.mem_left_op_right q)).2; isplitl [A1]; · iexact A1
    iexact B1
  · iapply (pointsTo_share (PosShare.mem_left_op_right q)).2; isplitl [A2]; · iexact A2
    iexact B2

/-- A counted loop by an invariant over its trips. -/
theorem wp_loop {bd : Option (𝒱₀).V} {β : Type} {l : Scf.Loop 32} {hok : l.OK} {init : BitVec 32}
    {body : Fin l.trips → BitVec 32 → Prog (TpuEff nD τ sig (Elt F) Λ₀ (.scVector (cV L) (jV L))) (BitVec 32)} (I : ℕ → sProp 𝕄)
    (hbody : ∀ k acc, I k.val ⊢ wp frame (wpE (defs₀ (F := F)) 𝒱₀ (thr d L) bd) Set.univ (body k acc) fun _ => I (k.val + 1))
    {kk : BitVec 32 → Prog (TpuEff nD τ sig (Elt F) Λ₀ (.scVector (cV L) (jV L))) β} {Q : β → sProp 𝕄} :
    I 0 ⊢ iprop((∀ acc, I l.trips -∗ wp frame (wpE (defs₀ (F := F)) 𝒱₀ (thr d L) bd) Set.univ (kk acc) Q)
      -∗ wp frame (wpE (defs₀ (F := F)) 𝒱₀ (thr d L) bd) Set.univ (Scf.Loop.for l hok init body >>= kk) Q) :=
  Scf.wp_for_bind (M := 𝕄) frame (wpE (defs₀ (F := F)) 𝒱₀ (thr d L) bd) Set.univ l.lb l.ub l.st hok init body (fun k _ => I k) hbody

theorem tab_any (M : Table) (hM : M.view.set = Finset.univ) {X : Vec F S64800 .f32} : tabHas d L M X ⊢ iprop(∃ f, M.view.loc (thr d L) ↦{fullShare} f) := by
  rw [tabHas_eq]; unfold tabFull; rw [hM]
  iintro ⟨%f, H, -⟩
  iexists f; iexact H

/-- Both tables cleared so far. -/
def zeroI (k : ℕ) : sProp 𝕄 := iprop(zeroed d L t0 k ∗ zeroed d L t1 k)

theorem zero_trip (k : Fin k0_t1_loop.trips) (acc : BitVec 32) :
    zeroI d L k.val
      ⊢ wp frame (wpE (defs₀ (F := F)) 𝒱₀ (thr d L) none) Set.univ
          (k0_t1_body L i0 (Memref.isWhole_whole _) i1 (Memref.isWhole_whole _) i2 (Memref.isWhole_whole _) o0 (Memref.isWhole_whole _) o1 (Memref.isWhole_whole _)
            s0 (Memref.isWhole_whole _) s1 (Memref.isWhole_whole _) s2 (Memref.isWhole_whole _) t0 (Memref.isWhole_whole _) t1 (Memref.isWhole_whole _)
            cc0_scratch5 cc0_scratch6 cc0_scoped0 cc0_scoped1 k acc)
          fun _ => zeroI d L (k.val + 1) := by
  unfold k0_t1_body zeroI
  simp only [Prog.lift, Prog.bind_op, Prog.bind_ret, Prog.pure_eq_ret]
  iintro ⟨H0, H1⟩
  iapply (wp_zero d L (M := t0) (k0_off1_eq k)) $$ H0
  iintro %_ H0
  iapply (wp_zero d L (M := t1) (k0_off1_eq k)) $$ H1
  iintro %_ H1
  rw [wp_ret]
  imodintro
  isplitl [H0]; · iexact H0
  iexact H1

/-- A trip, the right to wait kept. -/
theorem trip_keep (q q' : PosShare TreeShare) (O : CellTallies nD τ sig (HIx 1)) (W : Waits sig (HIx 1)) (v2 : BitVec 32) (k : Fin k0_t2_loop.trips) (acc : BitVec 32) :
    iprop(□ Transfers.MayWaits (thr d L) (default : HIx 1) O ∗ tripI d L f0 f1 f2 q q' O W k.val)
      ⊢ wp frame (wpE (defs₀ (F := F)) 𝒱₀ (thr d L) none) Set.univ
          (k0_t2_body L i0 (Memref.isWhole_whole _) i1 (Memref.isWhole_whole _) i2 (Memref.isWhole_whole _) o0 (Memref.isWhole_whole _) o1 (Memref.isWhole_whole _)
            s0 (Memref.isWhole_whole _) s1 (Memref.isWhole_whole _) s2 (Memref.isWhole_whole _) t0 (Memref.isWhole_whole _) t1 (Memref.isWhole_whole _)
            cc0_scratch5 cc0_scratch6 cc0_scoped0 cc0_scoped1 v2 k0_pay58 k acc)
          fun _ => iprop(□ Transfers.MayWaits (thr d L) (default : HIx 1) O ∗ tripI d L f0 f1 f2 q q' O W (k.val + 1)) := by
  iintro ⟨#Hmw, HI⟩
  iapply (wp_wand_r frame (wpE (defs₀ (F := F)) 𝒱₀ (thr d L) none) Set.univ)
  isplitl [HI]
  · iapply (trip d L f0 f1 f2 q q' O W k acc v2)
    isplitr [HI]; · iexact Hmw
    iexact HI
  · iintro %_ HI
    isplitr [HI]; · iexact Hmw
    iexact HI

/-- The sums a tile writes: of all its points. -/
abbrev sumT : Vec F S64800 .f32 := sumH (A0 d L f0) (A1 d L f1) (A2 d L f2) (base L) 262144
/-- The counts a tile writes. -/
abbrev cntT : Vec F S64800 .f32 := cntH (A0 d L f0) (A1 d L f1) (base L) 262144

set_option maxHeartbeats 1000000 in
/-- The task on one vector subcore. -/
theorem tile_body (hF : (K (F := F)).Facts) (q : PosShare TreeShare) (O : CellTallies nD τ sig (HIx 1)) (W : Waits sig (HIx 1)) (hO : ∀ g, O g none = 0)
    (g0 : Buf (Elt F) ((rowM o0 L).view.loc (thr d L))) (g1 : Buf (Elt F) ((rowM o1 L).view.loc (thr d L))) :
    iprop(levAts (K (F := F)).L (K (F := F)).lev ∗ emp
        ∗ (ins d L f0 f1 f2 q ∗ ((rowM o0 L).view.loc (thr d L) ↦[(rowM o0 L).view.set]{fullShare} g0) ∗ ((rowM o1 L).view.loc (thr d L) ↦[(rowM o1 L).view.set]{fullShare} g1))
        ∗ scopedBufs (thr d L) ∗ scopedSems0 (thr d L) ∗ owes (thr d L) O W)
      ⊢ wp frame (wpE (defs₀ (F := F)) 𝒱₀ (thr d L) none) Set.univ
          (cc0_hist_kernel L i0 (Memref.isWhole_whole _) i1 (Memref.isWhole_whole _) i2 (Memref.isWhole_whole _) o0 (Memref.isWhole_whole _) o1 (Memref.isWhole_whole _)
            s0 (Memref.isWhole_whole _) s1 (Memref.isWhole_whole _) s2 (Memref.isWhole_whole _) t0 (Memref.isWhole_whole _) t1 (Memref.isWhole_whole _)
            cc0_scratch5 cc0_scratch6 cc0_scoped0 cc0_scoped1)
          fun _ => iprop((ins d L f0 f1 f2 q ∗ rowHas d L o0 (sumT d L f0 f1 f2) ∗ rowHas d L o1 (cntT d L f0 f1))
            ∗ scopedBufs (thr d L) ∗ scopedSems0 (thr d L)
            ∗ ∃ W', ⌜∀ p ∈ W', p ∈ W ∨ p.2 = none⌝ ∗ owes (thr d L) O W') := by
  simp only [cc0_hist_kernel_eq_skeleton]
  unfold cc0_hist_kernel_skel
  simp only [k0_part15_eq_skeleton]
  unfold k0_part15_skel
  simp only [Prog.lift, Prog.bind_op, Prog.bind_ret, Prog.pure_eq_ret, bind_assoc]
  obtain ⟨RS, eS⟩ := sems_V (F := F) d L
  obtain ⟨RB, eB⟩ := bufs_V (F := F) d L
  rw [(K (F := F)).scopedBufs_V hF d (cV L) (jV L), SparseCore.Cfg.scopedSems0_V (Val := Elt F) d (cV L) (jV L), eS, eB]
  iintro ⟨#Hlv, -, ⟨Hin, Ho0, Ho1⟩, ⟨Hb0, Hb1, Hb2, ⟨%ft0, Ht0⟩, ⟨%ft1, Ht1⟩, HRB⟩, ⟨HsA, HsB, HsC, HsD, HRS⟩, HO⟩
  ihave #Hmw := (show levAts (K (F := F)).L (K (F := F)).lev ⊢ Transfers.MayWaits (thr d L) (default : HIx 1) O from
    (K (F := F)).mayWaits_none (thr := thr d L) hO) $$ Hlv
  iapply (wp_loop d L (zeroI d L) (zero_trip d L)) $$ [Ht0 Ht1]
  · unfold zeroI zeroed
    isplitl [Ht0]
    · iexists ft0; isplitl [Ht0]
      · rw [show t0.view.set = Finset.univ from View.set_whole _]; iexact Ht0
      · ipureintro; intro y hy; omega
    · iexists ft1; isplitl [Ht1]
      · rw [show t1.view.set = Finset.univ from View.set_whole _]; iexact Ht1
      · ipureintro; intro y hy; omega
  iintro %_ Hz
  ihave Hz' := (show zeroI d L k0_t1_loop.trips ⊢ tabsAt d L f0 f1 f2 (256 * 0) by
    show iprop(zeroed d L t0 4050 ∗ zeroed d L t1 4050) ⊢ iprop(tabHas d L t0 (fun _ => zeroF) ∗ tabHas d L t1 (fun _ => zeroF))
    iintro ⟨H0, H1⟩
    isplitl [H0]; · iapply (zeroed_tab d L t0); iexact H0
    iapply (zeroed_tab d L t1); iexact H1) $$ Hz
  ihave Hb0' := (slots_split d L s0 (View.set_whole _)) $$ Hb0
  ihave Hb1' := (slots_split d L s1 (View.set_whole _)) $$ Hb1
  ihave Hb2' := (slots_split d L s2 (View.set_whole _)) $$ Hb2
  ihave Hin' := (ins_halve d L f0 f1 f2 q) $$ Hin
  icases Hb0' with ⟨A0, B0⟩
  icases Hb1' with ⟨A1, B1⟩
  icases Hb2' with ⟨A2, B2⟩
  icases Hin' with ⟨HiA, HiB⟩
  iapply (wp_refill d L f0 f1 f2 (q := q.left) (sm := cc0_scratch5.sem) (r := 0) (h := inb_S2x128_S1x128_0_0) (c := 2 * 0) (by omega) (k0_off2_eq L 0)) $$ [HsA A0 A1 A2 HiA]
  · unfold idle slotsAny
    isplitl [HsA]; · iexact HsA
    isplitr [HiA]
    · isplitl [A0]; · iexact A0
      isplitl [A1]; · iexact A1
      iexact A2
    · iexact HiA
  iintro HA
  iapply (wp_refill d L f0 f1 f2 (q := q.right) (sm := cc0_scratch6.sem) (r := 1) (h := inb_S2x128_S1x128_1_0) (c := 2 * 0 + 1) (by omega) (k0_off2_eq L 1)) $$ [HsB B0 B1 B2 HiB]
  · unfold idle slotsAny
    isplitl [HsB]; · iexact HsB
    isplitr [HiB]
    · isplitl [B0]; · iexact B0
      isplitl [B1]; · iexact B1
      iexact B2
    · iexact HiB
  iintro HB
  iapply (wp_loop d L (fun k => iprop(□ Transfers.MayWaits (thr d L) (default : HIx 1) O ∗ tripI d L f0 f1 f2 q.left q.right O W k)) (trip_keep d L f0 f1 f2 q.left q.right O W _)) $$ [Hz' HA HB HO]
  · isplitr [Hz' HA HB HO]; · iexact Hmw
    unfold tripI
    isplitl [Hz']; · iexact Hz'
    isplitl [HA]; · iexact HA
    isplitl [HB]; · iexact HB
    unfold owing
    iexists W; isplitr; · ipureintro; exact fun p hp => .inl hp
    iexact HO
  iintro %_ ⟨-, HI⟩
  ihave HI' := (show tripI d L f0 f1 f2 q.left q.right O W k0_t2_loop.trips
      ⊢ iprop((tabHas d L t0 (sumT d L f0 f1 f2) ∗ tabHas d L t1 (cntT d L f0 f1))
          ∗ idle d L f0 f1 f2 q.left cc0_scratch5.sem 0 inb_S2x128_S1x128_0_0 ∗ idle d L f0 f1 f2 q.right cc0_scratch6.sem 1 inb_S2x128_S1x128_1_0 ∗ owing d L O W) by
    show tripI d L f0 f1 f2 q.left q.right O W 1024 ⊢ _
    unfold tripI slotAt
    rw [dif_neg (by omega), dif_neg (by omega)]
    exact .rfl) $$ HI
  unfold idle slotsAny
  icases HI' with ⟨⟨Ht0, Ht1⟩, ⟨HsA, ⟨A0, A1, A2⟩, HiA⟩, ⟨HsB, ⟨B0, B1, B2⟩, HiB⟩, HO⟩
  iapply (wp_out d L (M := t0) (N := o0) (W := W) (O := O)) $$ [Ht0 Ho0 HsC HO]
  · isplitl [Ht0]; · iexact Ht0
    isplitl [Ho0]; · iexact Ho0
    isplitl [HsC]; · iexact HsC
    isplitr [HO]; · iexact Hmw
    iexact HO
  iintro ⟨Ht0, Ho0, HsC, HO⟩
  iapply (wp_out d L (M := t1) (N := o1) (W := W) (O := O)) $$ [Ht1 Ho1 HsD HO]
  · isplitl [Ht1]; · iexact Ht1
    isplitl [Ho1]; · iexact Ho1
    isplitl [HsD]; · iexact HsD
    isplitr [HO]; · iexact Hmw
    iexact HO
  iintro ⟨Ht1, Ho1, HsD, HO⟩
  rw [wp_ret]
  imodintro
  isplitl [HiA HiB Ho0 Ho1]
  · isplitl [HiA HiB]
    · iapply (ins_whole d L f0 f1 f2 q); isplitl [HiA]; · iexact HiA
      iexact HiB
    isplitl [Ho0]; · iexact Ho0
    iexact Ho1
  isplitl [A0 A1 A2 B0 B1 B2 Ht0 Ht1 HRB]
  · isplitl [A0 B0]
    · iapply (slots_join d L s0 (View.set_whole _)); isplitl [A0]; · iexact A0
      iexact B0
    isplitl [A1 B1]
    · iapply (slots_join d L s1 (View.set_whole _)); isplitl [A1]; · iexact A1
      iexact B1
    isplitl [A2 B2]
    · iapply (slots_join d L s2 (View.set_whole _)); isplitl [A2]; · iexact A2
      iexact B2
    isplitl [Ht0]; · iapply (tab_any d L t0 (View.set_whole _)); iexact Ht0
    isplitl [Ht1]; · iapply (tab_any d L t1 (View.set_whole _)); iexact Ht1
    iexact HRB
  isplitl [HsA HsB HsC HsD HRS]
  · isplitl [HsA]; · iexact HsA
    isplitl [HsB]; · iexact HsB
    isplitl [HsC]; · iexact HsC
    isplitl [HsD]; · iexact HsD
    iexact HRS
  unfold owing
  iexact HO

end Cert.Proof.Hist
-- ==== Proof.Launch.lean ====
/-
  The SparseCore call of the launch: what each tile is handed and hands back, the two result arrays cut into the tiles'
  rows and put together again, and the tile obligation.
-/
module

public import proofs.«01_k».proof.Proof.Tile

@[expose] public section

noncomputable section

namespace Cert.Proof.Hist

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays of the call -/

abbrev a0 (d : Dev nD) : Loc nD τ sig := (SparseCore.T d).loc main_v0
abbrev a1 (d : Dev nD) : Loc nD τ sig := (SparseCore.T d).loc main_v1
abbrev a2 (d : Dev nD) : Loc nD τ sig := (SparseCore.T d).loc main_v2
abbrev r0 (d : Dev nD) : Loc nD τ sig := (SparseCore.T d).loc main_v3_0
abbrev r1 (d : Dev nD) : Loc nD τ sig := (SparseCore.T d).loc main_v3_1

abbrev coordsV (c : Fin 2) (s : Fin 16) : grid0.Coords :=
  fun | 0 => c | 1 => s | ⟨_ + 2, h⟩ => absurd h (Nat.not_lt.2 (Nat.le_add_left _ _))

/-- The share of the three inputs that tile `s` of SparseCore `c` reads by. -/
def shr (c : Fin 2) (s : Fin 16) : PosShare TreeShare :=
  ShareLeaves.leaf 4 (ShareLeaves.leaf 1 fullShare (c : Fin (2 ^ 1))) (s : Fin (2 ^ 4))

/-- The tile's row of a result array. -/
def rowS (c : Fin 2) (s : Fin 16) : Finset S2073600.Idx :=
  (Rect.unit (s := S2073600) (k0_off7 (coordsV c s)) S64800.size (k0_off7_inb (coordsV c s))).set

theorem row0_set (c : Fin 2) (s : Fin 16) : (rowM o0 (coordsV c s)).view.set = rowS c s := by
  show ((View.whole (main_v3_0_scv : Ref sig .scVector)).slice _).set = _
  rw [View.set_slice]; exact Finset.map_refl
theorem row1_set (c : Fin 2) (s : Fin 16) : (rowM o1 (coordsV c s)).view.set = rowS c s := by
  show ((View.whole (main_v3_1_scv : Ref sig .scVector)).slice _).set = _
  rw [View.set_slice]; exact Finset.map_refl

theorem mem_rowS (c : Fin 2) (s : Fin 16) (j : S2073600.Idx) :
    j ∈ rowS c s ↔ 64800 * (2 * s.val + c.val) ≤ (j 0).val ∧ (j 0).val < 64800 * (2 * s.val + c.val) + 64800 := by
  unfold rowS
  rw [Rect.mem_set_unit]
  constructor
  · intro h
    have := h 0
    rw [k0_off7_eq] at this
    have h2 : 129600 * s.val + 64800 * c.val ≤ (j 0).val ∧ (j 0).val < 129600 * s.val + 64800 * c.val + 64800 := this
    omega
  · intro h a
    obtain rfl : a = 0 := Subsingleton.elim _ _
    rw [k0_off7_eq]
    show 129600 * s.val + 64800 * c.val ≤ (j 0).val ∧ (j 0).val < 129600 * s.val + 64800 * c.val + 64800
    omega

/-- All rows, numbered by the two coordinates at once. -/
def rowP (w : Fin 2 × Fin 16) : Finset S2073600.Idx := rowS w.1 w.2

theorem rows_disjoint : ∀ i ∈ (Finset.univ : Finset (Fin 2 × Fin 16)), ∀ j ∈ (Finset.univ : Finset (Fin 2 × Fin 16)), i ≠ j → Disjoint (rowP i) (rowP j) := by
  rintro ⟨c, s⟩ - ⟨c', s'⟩ - hne
  rw [Finset.disjoint_left]
  intro x hx hy
  apply hne
  have h1 := (mem_rowS c s x).1 hx
  have h2 := (mem_rowS c' s' x).1 hy
  have e : 2 * s.val + c.val = 2 * s'.val + c'.val := by omega
  have hc := c.isLt
  have hc' := c'.isLt
  rw [Prod.mk.injEq]
  exact ⟨Fin.ext (by omega), Fin.ext (by omega)⟩

theorem rows_cover : (Finset.univ : Finset (Fin 2 × Fin 16)).biUnion rowP = Finset.univ := by
  ext x
  simp only [Finset.mem_biUnion, Finset.mem_univ, true_and, iff_true]
  have hx : (x 0).val < 2073600 := (x 0).isLt
  refine ⟨(⟨(x 0).val / 64800 % 2, by omega⟩, ⟨(x 0).val / 64800 / 2, by omega⟩), ?_⟩
  show x ∈ rowS _ _
  rw [mem_rowS]
  show 64800 * (2 * ((x 0).val / 64800 / 2) + (x 0).val / 64800 % 2) ≤ (x 0).val ∧ _
  constructor
  · omega
  · show (x 0).val < 64800 * (2 * ((x 0).val / 64800 / 2) + (x 0).val / 64800 % 2) + 64800
    omega

/-! ## What the tiles leave -/

/-- A flat array by number. -/
def natX (x : FVec F S8388608 .f32) (n : ℕ) : F .f32 := x (flatIx n)

/-- Entry `n` of a table, counted around. -/
def tabIx (n : ℕ) : S64800.Idx := fun a => ⟨n % 64800, by obtain rfl : a = 0 := Subsingleton.elim _ _; exact Nat.mod_lt _ (by norm_num)⟩

/-- The tables of sums, row after row. -/
def outS (x0 x1 x2 : FVec F S8388608 .f32) : FVec F S2073600 .f32 := fun j =>
  sumH (natX x0) (natX x1) (natX x2) (262144 * ((j 0).val / 64800)) 262144 (tabIx (j 0).val)
/-- The tables of counts, row after row. -/
def outC (x0 x1 : FVec F S8388608 .f32) : FVec F S2073600 .f32 := fun j =>
  cntH (natX x0) (natX x1) (262144 * ((j 0).val / 64800)) 262144 (tabIx (j 0).val)

variable (x0 x1 x2 : Dev nD → FVec F S8388608 .f32) (z0 z1 : Dev nD → FVec F S2073600 .f32)

/-- What tile `s` of SparseCore `c` is handed: its shares of the inputs, its rows of the results. -/
def goT (d : Dev nD) (c : Fin 2) (s : Fin 16) : sProp 𝕄 :=
  iprop(ins d (coordsV c s) (x0 d) (x1 d) (x2 d) (shr c s)
    ∗ ((r0 d) ↦[rowS c s]{fullShare} z0 d) ∗ ((r1 d) ↦[rowS c s]{fullShare} z1 d))
/-- What it hands back: the shares, the rows at its tables. -/
def tdT (d : Dev nD) (c : Fin 2) (s : Fin 16) : sProp 𝕄 :=
  iprop(ins d (coordsV c s) (x0 d) (x1 d) (x2 d) (shr c s)
    ∗ ((r0 d) ↦[rowS c s]{fullShare} outS (x0 d) (x1 d) (x2 d)) ∗ ((r1 d) ↦[rowS c s]{fullShare} outC (x0 d) (x1 d)))

instance goT_storable (d : Dev nD) (c : Fin 2) (s : Fin 16) : BI.Storable (upEmb : UEmb _ 𝕄) (goT x0 x1 x2 z0 z1 d c s) := by
  unfold goT ins; infer_instance
instance tdT_storable (d : Dev nD) (c : Fin 2) (s : Fin 16) : BI.Storable (upEmb : UEmb _ 𝕄) (tdT x0 x1 x2 d c s) := by
  unfold tdT ins; infer_instance

theorem nCore_zero : (K (F := F)).nCore 0 = 2 := rfl
theorem nSub_zero : (K (F := F)).nSub 0 = 16 := rfl

/-- What the handshakes of the call carry. -/
def P : (K (F := F)).Pay (nD := nD) (Val := Elt F) (Name := ℕ) (U := UU) where
  st := fun q d c => match q with | 0 => bigSep Finset.univ fun s : Fin 16 => goT x0 x1 x2 z0 z1 d (Fin.cast nCore_zero c) s
  dn := fun q d c => match q with | 0 => bigSep Finset.univ fun s : Fin 16 => tdT x0 x1 x2 d (Fin.cast nCore_zero c) s
  go := fun q d c i => match q with | 0 => goT x0 x1 x2 z0 z1 d (Fin.cast nCore_zero c) (Fin.cast nSub_zero i)
  td := fun q d c i => match q with | 0 => tdT x0 x1 x2 d (Fin.cast nCore_zero c) (Fin.cast nSub_zero i)
  x := fun _ _ => iprop(emp)

instance P_storable : (P (F := F) x0 x1 x2 z0 z1).IsStorable where
  st q d c := match q with
    | 0 => (inferInstance : BI.Storable (upEmb : UEmb _ 𝕄) (bigSep Finset.univ fun s : Fin 16 => goT x0 x1 x2 z0 z1 d (Fin.cast nCore_zero c) s))
  dn q d c := match q with
    | 0 => (inferInstance : BI.Storable (upEmb : UEmb _ 𝕄) (bigSep Finset.univ fun s : Fin 16 => tdT x0 x1 x2 d (Fin.cast nCore_zero c) s))
  go q d c i := match q with
    | 0 => (inferInstance : BI.Storable (upEmb : UEmb _ 𝕄) (goT x0 x1 x2 z0 z1 d (Fin.cast nCore_zero c) (Fin.cast nSub_zero i)))
  td q d c i := match q with
    | 0 => (inferInstance : BI.Storable (upEmb : UEmb _ 𝕄) (tdT x0 x1 x2 d (Fin.cast nCore_zero c) (Fin.cast nSub_zero i)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's part of the call is its tiles' parts. -/
theorem vecSplit : (K (F := F)).VecSplit' (P x0 x1 x2 z0 z1) 0 := by
  intro d c
  show (bigSep Finset.univ fun s : Fin 16 => goT x0 x1 x2 z0 z1 d (Fin.cast nCore_zero c) s) ⊢ |={Set.univ}=> iprop(
      (bigSep Finset.univ fun i : Fin ((K (F := F)).nSub 0) => goT x0 x1 x2 z0 z1 d (Fin.cast nCore_zero c) (Fin.cast nSub_zero i))
      ∗ ((bigSep Finset.univ fun i : Fin ((K (F := F)).nSub 0) => tdT x0 x1 x2 d (Fin.cast nCore_zero c) (Fin.cast nSub_zero i))
          -∗ (bigSep Finset.univ fun s : Fin 16 => tdT x0 x1 x2 d (Fin.cast nCore_zero c) s)))
  rw [bigSep_tasks (F := F) (fun s => goT x0 x1 x2 z0 z1 d (Fin.cast nCore_zero c) s),
    bigSep_tasks (F := F) (fun s => tdT x0 x1 x2 d (Fin.cast nCore_zero c) s)]
  iintro H; imodintro
  isplitl [H]; · iexact H
  iintro H; iexact H

/-! ## The tile obligation -/

theorem base_coords (c : Fin 2) (s : Fin 16) : base (coordsV c s) = 262144 * (2 * s.val + c.val) := by
  show 524288 * s.val + 262144 * c.val = _
  omega

theorem tabIx_row (c : Fin 2) (s : Fin 16) (y : S64800.Idx) (j : S2073600.Idx) (hj : (j 0).val = 64800 * (2 * s.val + c.val) + (y 0).val) :
    (j 0).val / 64800 = 2 * s.val + c.val ∧ tabIx (j 0).val = y := by
  have hy : (y 0).val < 64800 := (y 0).isLt
  refine ⟨by omega, funext fun a => ?_⟩
  obtain rfl : a = 0 := Subsingleton.elim _ _
  refine Fin.ext ?_
  show (j 0).val % 64800 = _
  omega

theorem row_pos (c : Fin 2) (s : Fin 16) (y : S64800.Idx) :
    ((Rect.unit (s := S2073600) (k0_off7 (coordsV c s)) S64800.size (k0_off7_inb (coordsV c s))).emb y 0).val = 64800 * (2 * s.val + c.val) + (y 0).val := by
  show k0_off7 (coordsV c s) 0 + 1 * (y 0).val = _
  rw [k0_off7_eq]
  show 129600 * s.val + 64800 * c.val + 1 * (y 0).val = _
  omega

/-- A row at a tile's table, as a row of one array that has the table there. -/
theorem row_out0 (d : Dev nD) (c : Fin 2) (s : Fin 16) (X : Vec F S64800 .f32) (G : FVec F S2073600 .f32)
    (hG : ∀ (y : S64800.Idx) (j : S2073600.Idx), (j 0).val = 64800 * (2 * s.val + c.val) + (y 0).val → G j = X y) :
    rowHas d (coordsV c s) o0 X ⊢ ((r0 d) ↦[rowS c s]{fullShare} G : sProp 𝕄) := by
  unfold rowHas
  iintro ⟨%f, H, %e⟩
  rw [row0_set]
  iapply (Entails.of_eq (pointsTo_congr (ℓ := r0 d) (q := fullShare) (I := rowS c s) (f := f) (g := G) ?_)) $$ H
  intro j hj
  rw [rowS, ← Rect.map_emb_univ, Finset.mem_map] at hj
  obtain ⟨y, -, rfl⟩ := hj
  exact (congrFun e y).trans (hG y _ (row_pos c s y)).symm
theorem row_out1 (d : Dev nD) (c : Fin 2) (s : Fin 16) (X : Vec F S64800 .f32) (G : FVec F S2073600 .f32)
    (hG : ∀ (y : S64800.Idx) (j : S2073600.Idx), (j 0).val = 64800 * (2 * s.val + c.val) + (y 0).val → G j = X y) :
    rowHas d (coordsV c s) o1 X ⊢ ((r1 d) ↦[rowS c s]{fullShare} G : sProp 𝕄) := by
  unfold rowHas
  iintro ⟨%f, H, %e⟩
  rw [row1_set]
  iapply (Entails.of_eq (pointsTo_congr (ℓ := r1 d) (q := fullShare) (I := rowS c s) (f := f) (g := G) ?_)) $$ H
  intro j hj
  rw [rowS, ← Rect.map_emb_univ, Finset.mem_map] at hj
  obtain ⟨y, -, rfl⟩ := hj
  exact (congrFun e y).trans (hG y _ (row_pos c s y)).symm

theorem defs₀_vector (c : Fin τ.nSC) (s : Fin τ.nSub) :
    defs₀ (F := F) (.scVector c s) 0 ()
      = SparseCore.onTile hcore0 hsub0 (fun c s => cc0_hist_kernel (coordsV c s)
          i0 (Memref.isWhole_whole _) i1 (Memref.isWhole_whole _) i2 (Memref.isWhole_whole _) o0 (Memref.isWhole_whole _) o1 (Memref.isWhole_whole _)
          s0 (Memref.isWhole_whole _) s1 (Memref.isWhole_whole _) s2 (Memref.isWhole_whole _) t0 (Memref.isWhole_whole _) t1 (Memref.isWhole_whole _)
          cc0_scratch5 cc0_scratch6 cc0_scoped0 cc0_scoped1) ⟨⟩ c s := rfl

/-- What the task leaves, as the launch asks for it. -/
theorem obl_post (d : Dev nD) (c : Fin 2) (s : Fin 16) {B C : sProp 𝕄} {O : CellTallies nD τ sig (HIx 1)} {W : Waits sig (HIx 1)} {q : Fin 1} :
    iprop((ins d (coordsV c s) (x0 d) (x1 d) (x2 d) (shr c s)
          ∗ rowHas d (coordsV c s) o0 (sumT d (coordsV c s) (x0 d) (x1 d) (x2 d)) ∗ rowHas d (coordsV c s) o1 (cntT d (coordsV c s) (x0 d) (x1 d)))
        ∗ B ∗ C ∗ ∃ W', ⌜∀ p ∈ W', p ∈ W ∨ p.2 = none⌝ ∗ owes (thr d (coordsV c s)) O W')
      ⊢ iprop(tdT x0 x1 x2 d c s ∗ B ∗ C ∗ ∃ W', ⌜∀ p ∈ W', p ∈ W ∨ p.2 = none ∨ p.2 = some q⌝ ∗ owes (thr d (coordsV c s)) O W') := by
  iintro ⟨⟨Hin, H0, H1⟩, HB, HC, %W', %hW', HO⟩
  ihave H0' := (row_out0 d c s (sumT d (coordsV c s) (x0 d) (x1 d) (x2 d)) (outS (x0 d) (x1 d) (x2 d)) (by
    intro y j hj
    obtain ⟨e1, e2⟩ := tabIx_row c s y j hj
    unfold outS sumT
    rw [e1, e2, base_coords]; rfl)) $$ H0
  ihave H1' := (row_out1 d c s (cntT d (coordsV c s) (x0 d) (x1 d)) (outC (x0 d) (x1 d)) (by
    intro y j hj
    obtain ⟨e1, e2⟩ := tabIx_row c s y j hj
    unfold outC cntT
    rw [e1, e2, base_coords]; rfl)) $$ H1
  isplitl [Hin H0' H1']
  · unfold tdT
    isplitl [Hin]; · iexact Hin
    isplitl [H0']; · iexact H0'
    iexact H1'
  isplitl [HB]; · iexact HB
  isplitl [HC]; · iexact HC
  iexists W'; isplitr
  · ipureintro; exact fun p hp => (hW' p hp).imp_right Or.inl
  · iexact HO

theorem go_rows (d : Dev nD) (c : Fin 2) (s : Fin 16) :
    goT x0 x1 x2 z0 z1 d c s = (iprop(ins d (coordsV c s) (x0 d) (x1 d) (x2 d) (shr c s)
      ∗ ((rowM o0 (coordsV c s)).view.loc (thr d (coordsV c s)) ↦[(rowM o0 (coordsV c s)).view.set]{fullShare} z0 d)
      ∗ ((rowM o1 (coordsV c s)).view.loc (thr d (coordsV c s)) ↦[(rowM o1 (coordsV c s)).view.set]{fullShare} z1 d)) : sProp 𝕄) := by
  rw [row0_set, row1_set]; rfl

set_option maxRecDepth 16384 in
theorem tileObl (hF : (K (F := F)).Facts) : (K (F := F)).TileObl (D (F := F)) 𝒱 (P x0 x1 x2 z0 z1) v₀ 0 := by
  intro d c i O W hO _ _
  simp only [show (P (F := F) x0 x1 x2 z0 z1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(_ ∗ _ ∗ goT x0 x1 x2 z0 z1 d ⟨_, hci.1⟩ ⟨_, hci.2⟩ ∗ _) ⊢ _
  rw [go_rows]
  exact (tile_body d (coordsV ⟨_, hci.1⟩ ⟨_, hci.2⟩) (x0 d) (x1 d) (x2 d) hF _ O W hO _ _).trans (wp_mono frame _ _ fun _ => obl_post x0 x1 x2 d ⟨_, hci.1⟩ ⟨_, hci.2⟩)

end Cert.Proof.Hist

end
-- ==== Proof.Call.lean ====
/-
  The whole arrays of the SparseCore call, cut into the tiles' parts and put together again.
-/
module

public import proofs.«01_k».proof.Proof.Launch

@[expose] public section

noncomputable section

namespace Cert.Proof.Hist

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A whole array is its thirty-two equal shares. -/
theorem shares {ℓ : Loc nD τ sig} (f : Buf (Elt F) ℓ) :
    (ℓ ↦{fullShare} f : sProp 𝕄)
      = bigSep Finset.univ fun c : Fin 2 => bigSep Finset.univ fun s : Fin 16 => (ℓ ↦{shr c s} f : sProp 𝕄) := by
  rw [ShareLeaves.pointsTo_leaves Finset.univ f 1 fullShare]
  exact bigSep_congr fun c _ => ShareLeaves.pointsTo_leaves Finset.univ f 4 _

theorem rows_r0 (d : Dev nD) (f : Buf (Elt F) (r0 d)) :
    ((r0 d) ↦{fullShare} f : sProp 𝕄)
      = bigSep Finset.univ fun c : Fin 2 => bigSep Finset.univ fun s : Fin 16 => ((r0 d) ↦[rowS c s]{fullShare} f : sProp 𝕄) := by
  refine Eq.trans ?_ (bigSep_univ_prod (fun w : Fin 2 × Fin 16 => ((r0 d) ↦[rowP w]{fullShare} f : sProp 𝕄)))
  rw [← pointsTo_biUnion (ℓ := r0 d) (Finset.univ : Finset (Fin 2 × Fin 16)) rowP rows_disjoint]
  exact congrArg (fun I : Finset S2073600.Idx => ((r0 d) ↦[I]{fullShare} f : sProp 𝕄)) rows_cover.symm

theorem rows_r1 (d : Dev nD) (f : Buf (Elt F) (r1 d)) :
    ((r1 d) ↦{fullShare} f : sProp 𝕄)
      = bigSep Finset.univ fun c : Fin 2 => bigSep Finset.univ fun s : Fin 16 => ((r1 d) ↦[rowS c s]{fullShare} f : sProp 𝕄) := by
  refine Eq.trans ?_ (bigSep_univ_prod (fun w : Fin 2 × Fin 16 => ((r1 d) ↦[rowP w]{fullShare} f : sProp 𝕄)))
  rw [← pointsTo_biUnion (ℓ := r1 d) (Finset.univ : Finset (Fin 2 × Fin 16)) rowP rows_disjoint]
  exact congrArg (fun I : Finset S2073600.Idx => ((r1 d) ↦[I]{fullShare} f : sProp 𝕄)) rows_cover.symm

/-- The five arrays of the call, whole. -/
def five (d : Dev nD) (f0 : Buf (Elt F) (a0 d)) (f1 : Buf (Elt F) (a1 d)) (f2 : Buf (Elt F) (a2 d)) (g0 : Buf (Elt F) (r0 d)) (g1 : Buf (Elt F) (r1 d)) : sProp 𝕄 :=
  iprop(((a0 d) ↦{fullShare} f0) ∗ ((a1 d) ↦{fullShare} f1) ∗ ((a2 d) ↦{fullShare} f2) ∗ ((r0 d) ↦{fullShare} g0) ∗ ((r1 d) ↦{fullShare} g1))

theorem sep5 (A B C D E : sProp 𝕄) : (iprop(A ∗ B ∗ C ∗ D ∗ E) : sProp 𝕄) = iprop((A ∗ B ∗ C) ∗ D ∗ E) := by
  refine Entails.antisymm (show (iprop(A ∗ B ∗ C ∗ D ∗ E) : sProp 𝕄) ⊢ iprop((A ∗ B ∗ C) ∗ D ∗ E) from ?_)
    (show (iprop((A ∗ B ∗ C) ∗ D ∗ E) : sProp 𝕄) ⊢ iprop(A ∗ B ∗ C ∗ D ∗ E) from ?_)
  · iintro ⟨H1, H2, H3, H4, H5⟩
    isplitl [H1 H2 H3]
    · isplitl [H1]; · iexact H1
      isplitl [H2] <;> iassumption
    isplitl [H4] <;> iassumption
  · iintro ⟨⟨H1, H2, H3⟩, H4, H5⟩
    isplitl [H1]; · iexact H1
    isplitl [H2]; · iexact H2
    isplitl [H3]; · iexact H3
    isplitl [H4] <;> iassumption

theorem bigSep_sep5 {I : Type} (S : Finset I) (A B C D E : I → sProp 𝕄) :
    (iprop(bigSep S A ∗ bigSep S B ∗ bigSep S C ∗ bigSep S D ∗ bigSep S E) : sProp 𝕄)
      = bigSep S fun i => iprop(A i ∗ B i ∗ C i ∗ D i ∗ E i) := by
  rw [bigSep_sep', bigSep_sep', bigSep_sep', bigSep_sep']

/-- The five arrays are the tiles' parts. -/
theorem five_eq (d : Dev nD) (f0 : Buf (Elt F) (a0 d)) (f1 : Buf (Elt F) (a1 d)) (f2 : Buf (Elt F) (a2 d)) (g0 : Buf (Elt F) (r0 d)) (g1 : Buf (Elt F) (r1 d)) :
    (five d f0 f1 f2 g0 g1 : sProp 𝕄)
      = bigSep Finset.univ fun c : Fin 2 => bigSep Finset.univ fun s : Fin 16 =>
          iprop(ins d (coordsV c s) f0 f1 f2 (shr c s) ∗ ((r0 d) ↦[rowS c s]{fullShare} g0) ∗ ((r1 d) ↦[rowS c s]{fullShare} g1)) := by
  unfold five
  rw [shares f0, shares f1, shares f2, rows_r0, rows_r1, bigSep_sep5]
  refine bigSep_congr fun c _ => ?_
  rw [bigSep_sep5]
  exact bigSep_congr fun s _ => sep5 _ _ _ _ _

variable (x0 x1 x2 : Dev nD → FVec F S8388608 .f32) (z0 z1 : Dev nD → FVec F S2073600 .f32)

/-- What the call takes is the five arrays. -/
theorem st_five (d : Dev nD) :
    (bigSep Finset.univ fun c : Fin ((K (F := F)).nCore 0) => (P x0 x1 x2 z0 z1).st 0 d c) = five d (x0 d) (x1 d) (x2 d) (z0 d) (z1 d) :=
  (five_eq d (x0 d) (x1 d) (x2 d) (z0 d) (z1 d)).symm

/-- What the call gives back is the five arrays, the results at the tables. -/
theorem dn_five (d : Dev nD) :
    (bigSep Finset.univ fun c : Fin ((K (F := F)).nCore 0) => (P x0 x1 x2 z0 z1).dn 0 d c)
      = five d (x0 d) (x1 d) (x2 d) (outS (x0 d) (x1 d) (x2 d)) (outC (x0 d) (x1 d)) :=
  (five_eq d (x0 d) (x1 d) (x2 d) _ _).symm

end Cert.Proof.Hist

end
-- ==== Proof.Finalize.lean ====
/-
  The finalize kernel's body: at a point it reads the two tiles' sums and counts of one map and the two coordinate
  rows, and leaves the map's three rows.
-/
module

public import proofs.«01_k».proof.Proof.Setup
public import proofs.«01_k».proof.Proof.Gen.KernelIdeal.Skeleton
public import Idealize.ShloMosaic.Lib.Pipeline.FrameBody
public import Idealize.ShloMosaic.Lib.ValueLayout

@[expose] public section

noncomputable section

namespace Cert.Proof.Hist

open Cert.KernelIdeal Cert.KernelIdeal.Gen
open Idealize.ShloMosaic
open Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One map's three rows, from its two tiles' sums and counts and the two coordinate rows. -/
def finB (x0 x1 : FVec F S1x2x64800 .f32) (x2 x3 : FVec F S1x64800 .f32) : FVec F S1x3x64800 .f32 := fun j =>
  if (j 1).val = 0 then k1_pay1 x2 (ix3 0 0 (j 2))
  else if (j 1).val = 1 then k1_pay2 x3 (ix3 0 0 (j 2))
  else k1_pay3 (fun i => x0 (ix3 0 0 (i 2))) (fun i => x0 (ix3 0 1 (i 2))) (fun i => x1 (ix3 0 0 (i 2))) (fun i => x1 (ix3 0 1 (i 2))) (ix3 0 0 (j 2))

/-- A rectangle of one row of a map, read off the map's contents. -/
theorem ld_row {n : ℕ} (r : ℕ) (hr : r < n) (h : ∀ a, (![0, r, 0] : Fin 3 → ℕ) a + S1x1x64800.size a ≤ (⟨3, ![1, n, 64800]⟩ : Shape).size a)
    (X : (⟨3, ![1, n, 64800]⟩ : Shape).Idx → F .f32) (i : S1x1x64800.Idx) :
    X ((Rect.unit (s := ⟨3, ![1, n, 64800]⟩) ![0, r, 0] S1x1x64800.size h).emb i) = X (ix3 0 ⟨r, hr⟩ (i 2)) := by
  congr 1
  funext a
  apply Fin.ext
  have h0 : (i 0).val < 1 := (i 0).isLt
  have h1 : (i 1).val < 1 := (i 1).isLt
  match a with
  | 0 => show 0 + 1 * (i 0).val = 0; omega
  | 1 => show r + 1 * (i 1).val = r; omega
  | 2 => show 0 + 1 * (i 2).val = (i 2).val; omega

theorem ld_all (h : ∀ a, (![0, 0] : Fin 2 → ℕ) a + S1x64800.size a ≤ S1x64800.size a)
    (X : S1x64800.Idx → F .f32) (i : S1x64800.Idx) :
    X ((Rect.unit (s := S1x64800) ![0, 0] S1x64800.size h).emb i) = X i := by
  congr 1
  funext a
  apply Fin.ext
  match a with
  | 0 => show 0 + 1 * (i 0).val = (i 0).val; omega
  | 1 => show 0 + 1 * (i 1).val = (i 1).val; omega

/-- Three rows written one by one, read back. -/
theorem read_rows (v : View sig .tc .vmem S1x3x64800 .f32) (f : v.ty.Contents (Elt F)) (w0 w1 w2 : S1x1x64800.Idx → F .f32) (j : S1x3x64800.Idx) :
    v.read (Elt F) (v.writes (Elt F) f
      [⟨Rect.unit ![0, 2, 0] S1x1x64800.size inb_S1x3x64800_S1x1x64800_0_2_0, w2⟩,
        ⟨Rect.unit ![0, 1, 0] S1x1x64800.size inb_S1x3x64800_S1x1x64800_0_1_0, w1⟩,
        ⟨Rect.unit ![0, 0, 0] S1x1x64800.size inb_S1x3x64800_S1x1x64800_0_0_0, w0⟩]) j
      = if (j 1).val = 0 then w0 (ix3 0 0 (j 2)) else if (j 1).val = 1 then w1 (ix3 0 0 (j 2)) else w2 (ix3 0 0 (j 2)) := by
  have h0 : (j 0).val < 1 := (j 0).isLt
  have h1 : (j 1).val < 3 := (j 1).isLt
  have hit : ∀ r, (j 1).val = r → ∀ a : Fin 3, (j a).val = (![0, r, 0] : Fin 3 → ℕ) a + 1 * (ix3 (0 : Fin 1) (0 : Fin 1) (j 2) a).val := by
    intro r hr a
    match a with
    | 0 => show (j 0).val = 0 + 1 * 0; omega
    | 1 => show (j 1).val = r + 1 * 0; omega
    | 2 => show (j 2).val = 0 + 1 * (j 2).val; omega
  by_cases e0 : (j 1).val = 0
  · rw [if_pos e0, View.read_writes_cons_miss_of_axis _ _ _ _ _ 1 2 1 rfl rfl rfl (by left; omega),
      View.read_writes_cons_miss_of_axis _ _ _ _ _ 1 1 1 rfl rfl rfl (by left; omega),
      View.read_writes_cons_hit_of_coords _ _ _ _ _ _ _ (hit 0 e0)]; rfl
  by_cases e1 : (j 1).val = 1
  · rw [if_neg e0, if_pos e1, View.read_writes_cons_miss_of_axis _ _ _ _ _ 1 2 1 rfl rfl rfl (by left; omega),
      View.read_writes_cons_hit_of_coords _ _ _ _ _ _ _ (hit 1 e1)]; rfl
  · rw [if_neg e0, if_neg e1, View.read_writes_cons_hit_of_coords _ _ _ _ _ _ _ (hit 2 (by omega))]; rfl

/-- The finalize kernel's body, over the five staging buffers. -/
theorem fin_run (c : Dev nD) (i : grid1.Coords) (M1 M2 : Memref sig .tc .vmem S1x2x64800 .f32) (M3 M4 : Memref sig .tc .vmem S1x64800 .f32)
    (M5 : Memref sig .tc .vmem S1x3x64800 .f32) (h1 : M1.IsWhole) (h2 : M2.IsWhole) (h3 : M3.IsWhole) (h4 : M4.IsWhole) (h5 : M5.IsWhole)
    (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) (Q : PUnit → sProp 𝕄) :
    (iprop((M1.view.loc (c : Thread nD τ) ↦{fullShare} f1) ∗ (M2.view.loc (c : Thread nD τ) ↦{fullShare} f2) ∗ (M3.view.loc (c : Thread nD τ) ↦{fullShare} f3)
        ∗ (M4.view.loc (c : Thread nD τ) ↦{fullShare} f4) ∗ (M5.view.loc (c : Thread nD τ) ↦{fullShare} f5)
        ∗ (iprop((M1.view.loc (c : Thread nD τ) ↦{fullShare} f1) ∗ (M2.view.loc (c : Thread nD τ) ↦{fullShare} f2) ∗ (M3.view.loc (c : Thread nD τ) ↦{fullShare} f3)
            ∗ (M4.view.loc (c : Thread nD τ) ↦{fullShare} f4) ∗ ∃ g, (M5.view.loc (c : Thread nD τ) ↦{fullShare} g)
              ∗ ⌜M5.view.read (Elt F) g = finB (M1.view.read (Elt F) f1) (M2.view.read (Elt F) f2) (M3.view.read (Elt F) f3) (M4.view.read (Elt F) f4)⌝) -∗ Q ⟨⟩)) : sProp 𝕄)
      ⊢ wp frame (wpE (defs₀ (F := F)) 𝒱₀ (c : Thread nD τ) none) Set.univ (cc1_body (F := F) i M1 h1 M2 h2 M3 h3 M4 h4 M5 h5) Q := by
  rw [cc1_body_eq_skeleton]
  unfold cc1_body_skel
  iintro ⟨H1, H2, H3, H4, H5, Hk⟩
  sl_exec
  sl_step
  iapply Hk
  isplitl [H1]; · iexact H1
  isplitl [H2]; · iexact H2
  isplitl [H3]; · iexact H3
  isplitl [H4]; · iexact H4
  iexists _
  isplitl [H5]; · iexact H5
  ipureintro
  funext j
  rw [read_rows]
  unfold finB
  have e0 : ∀ (M : Memref sig .tc .vmem S1x2x64800 .f32) (f : Buf (Elt F) (M.view.loc (c : Thread nD τ))),
      M.view.readAt (Elt F) (Rect.unit (s := S1x2x64800) ![0, 0, 0] S1x1x64800.size inb_S1x2x64800_S1x1x64800_0_0_0).toLoadRect f
        = fun i => M.view.read (Elt F) f (ix3 0 0 (i 2)) := fun M f =>
    funext fun i => ld_row 0 (by omega) inb_S1x2x64800_S1x1x64800_0_0_0 (M.view.read (Elt F) f) i
  have e1 : ∀ (M : Memref sig .tc .vmem S1x2x64800 .f32) (f : Buf (Elt F) (M.view.loc (c : Thread nD τ))),
      M.view.readAt (Elt F) (Rect.unit (s := S1x2x64800) ![0, 1, 0] S1x1x64800.size inb_S1x2x64800_S1x1x64800_0_1_0).toLoadRect f
        = fun i => M.view.read (Elt F) f (ix3 0 1 (i 2)) := fun M f =>
    funext fun i => ld_row 1 (by omega) inb_S1x2x64800_S1x1x64800_0_1_0 (M.view.read (Elt F) f) i
  have e2 : ∀ (M : Memref sig .tc .vmem S1x64800 .f32) (f : Buf (Elt F) (M.view.loc (c : Thread nD τ))),
      M.view.readAt (Elt F) (Rect.unit (s := S1x64800) ![0, 0] S1x64800.size inb_S1x64800_S1x64800_0_0).toLoadRect f
        = M.view.read (Elt F) f := fun M f =>
    funext fun i => ld_all inb_S1x64800_S1x64800_0_0 (M.view.read (Elt F) f) i
  rw [e0, e0, e1, e1, e2, e2]
  rfl

end Cert.Proof.Hist

end
-- ==== Proof.Region.lean ====
/-
  The finalize region: its proof data, the body at a point, and the array it leaves.
-/
module

public import proofs.«01_k».proof.Proof.Finalize
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.Value

@[expose] public section

noncomputable section

namespace Cert.Proof.Hist

open Cert.KernelIdeal Cert.KernelIdeal.Gen
open Idealize.ShloMosaic
open Idealize.ShloMosaic.TcCoe
open Idealize.ShloMosaic.ValueIdx
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (W : Dev nD → Valuation τ sig (Elt F)) (b : ℕ)

/-- The block of a window at a point, read off the buffers the region is entered with. -/
abbrev blkAt (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The proof data: the inputs' buffers as fetched, the result's buffer at the map's three rows; nothing owed, and no wait
    recorded above the bound. -/
def fdat (_ : Fin 1) (c : Dev nD) : Dat τ (Elt F) (HIx 1) ℕ UU ℕ cfg1 c where
  A w := W c (Proc.devRef .tc (Pipeline.arrRef spec1 w))
  after w t := match w with
    | ⟨0, _⟩ => blkAt W c 0 t
    | ⟨1, _⟩ => blkAt W c 1 t
    | ⟨2, _⟩ => blkAt W c 2 t
    | ⟨3, _⟩ => blkAt W c 3 t
    | ⟨4, _⟩ => finB (blkAt W c 0 t) (blkAt W c 1 t) (blkAt W c 2 t) (blkAt W c 3 t)
    | ⟨_ + 5, h⟩ => absurd h (Nat.not_lt.2 (Nat.le_add_left _ _))
  Φ _ := BI.emp
  q _ := fullShare
  owed _ := 0
  recorded _ := {p | (K (F := F)).lev ((c : Thread nD τ), p.1) p.2 ≤ b}

/-- An input window's buffer holds its block when the body runs. -/
theorem before_in (c : Dev nD) (w : Fin cfg1.W) (hw : w.val < 4) (t : Fin cfg1.N)
    (d : (cfg1.win w).block.Idx → Elt F (cfg1.win w).elt) : (fdat W b 0 c).before w t d = (fdat W b 0 c).after w t := by
  match w, hw with
  | ⟨0, h⟩, _ => exact (fdat W b 0 c).before_in_eq_fetched 0 rfl (fun _ => rfl) (fun _ _ _ => rfl) (fun _ => rfl) t d
  | ⟨1, h⟩, _ => exact (fdat W b 0 c).before_in_eq_fetched 1 rfl (fun _ => rfl) (fun _ _ _ => rfl) (fun _ => rfl) t d
  | ⟨2, h⟩, _ => exact (fdat W b 0 c).before_in_eq_fetched 2 rfl (fun _ => rfl) (fun _ _ _ => rfl) (fun _ => rfl) t d
  | ⟨3, h⟩, _ => exact (fdat W b 0 c).before_in_eq_fetched 3 rfl (fun _ => rfl) (fun _ _ _ => rfl) (fun _ => rfl) t d

theorem body_row (t : Fin cfg1.N) : defs₀ (F := F) .tc cfg1.body (cfg1.bodyArgs t (cfg1.slots t)) = bodyAt1 t := by
  unfold defs₀; rfl

theorem whole_owns {sh : Shape} {e : EltTy} (c : Dev nD) (M : Memref sig .tc .vmem sh e) (h : M.IsWhole) (X : sh.Idx → Elt F e) :
    (owns (c : Thread nD τ) M fullShare X : sProp 𝕄)
      = iprop(∃ f, ⌜M.view.read (Elt F) f = X⌝ ∗ (M.view.loc (c : Thread nD τ) ↦{fullShare} f)) := by
  unfold owns; rw [h.set_eq_univ]

theorem body_obligation (c : Dev nD) : BodyObligation (fdat W b 0 c) (defs₀ (F := F)) 𝒱₀ (none : HIx 1) Set.univ := fun t => by
  rw [bigSep_W1, bigSep_W1, body_row]
  dsimp only
  simp only [before_in W b c 0 (by decide) t, before_in W b c 1 (by decide) t, before_in W b c 2 (by decide) t, before_in W b c 3 (by decide) t]
  rw [whole_owns c (st1_0 t) (hstage1_0 _), whole_owns c (st1_1 t) (hstage1_1 _), whole_owns c (st1_2 t) (hstage1_2 _),
    whole_owns c (st1_3 t) (hstage1_3 _)]
  simp only [whole_owns c (stage1_4 (cfg1.slots t 4)) (hstage1_4 _)]
  iintro ⟨-, HO, ⟨%d0, %f0, %e0, H0⟩, ⟨%d1, %f1, %e1, H1⟩, ⟨%d2, %f2, %e2, H2⟩, ⟨%d3, %f3, %e3, H3⟩, ⟨%d4, %f4, -, H4⟩⟩
  iapply (fin_run c (grid1.coords t) (st1_0 t) (st1_1 t) (st1_2 t) (st1_3 t) (stage1_4 (cfg1.slots t 4)) (hstage1_0 _) (hstage1_1 _) (hstage1_2 _) (hstage1_3 _) (hstage1_4 _)
    f0 f1 f2 f3 f4 _)
  isplitl [H0]; · iexact H0
  isplitl [H1]; · iexact H1
  isplitl [H2]; · iexact H2
  isplitl [H3]; · iexact H3
  isplitl [H4]; · iexact H4
  iintro ⟨H0, H1, H2, H3, ⟨%g, H4, %hg⟩⟩
  isplitr; · dsimp only [fdat]; iempintro
  isplitl [HO]; · iexact HO
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists g
  isplitr
  · ipureintro; rw [e0, e1, e2, e3] at hg; exact hg
  iexact H4

abbrev adm : (p : Fin 1) → (pcfgs (F := F) p).Adm := fun p => (cfgs p).toPCfg_adm

theorem share_full (c : Dev nD) (w : Fin cfg1.W) : (fdat W b 0 c).share w = fullShare :=
  (fdat W b 0 c).share_full (fun _ => rfl) w

theorem arrRefs_sub : Pipeline.arrRefs (τ := τ) (pcfgs (F := F) 0).spec ⊆ Pipeline.ucRefs τ sig :=
  Pipeline.arrRefs_sub_ucRefs _ fun w => winFacts1.arr_unscoped w

/-- The core owes nothing, and has recorded no wait above the bound. -/
abbrev owesB (c : Dev nD) : sProp 𝕄 :=
  iprop(∃ Wt, ⌜(K (F := F)).WBelow (SparseCore.T c) Wt b⌝ ∗ owes (c : Thread nD τ) (0 : CellTallies nD τ sig (HIx 1)) Wt)

/-- The buffers when the region is left. -/
abbrev leftAt (c : Dev nD) : Valuation τ sig (Elt F) := Pipeline.afterRegion (fdat W b 0 c) (W c)

set_option backward.isDefEq.respectTransparency.types false in
/-- The region: entered from the unscoped buffers at `W`, left with the windows' arrays at what the run leaves. -/
def reg (L : GSem nD τ sig → Finset (HIx 1)) (lv : GSem nD τ sig → HIx 1 → ℕ) :
    Pipeline.RegionSeg (pcfgs (F := F)) adm (fdat W b) (none : HIx 1) (defs₀ (F := F)) 𝒱₀ L lv 0 where
  win := launch1.win.to₀
  block_pos := launch1.block_pos
  stage_whole := launch1.stage_whole
  K := PEmpty
  osem k := k.elim
  ho := Pipeline.OwnSemFacts.none _
  hbody c := (body_obligation W b c).loose
  hwaits := Pipeline.hwaits_of_owed_zero _ _ _ _ L lv 0 fun _ _ => rfl
  pre c := iprop(StableHlo.held (c : Thread nD τ) (Pipeline.ucRefs τ sig) (W c) ∗ owesB b c)
  post c := iprop(StableHlo.held (c : Thread nD τ) (Pipeline.ucRefs τ sig) (leftAt W b c) ∗ owesB b c)
  X _ := BI.emp
  Y _ := BI.emp
  Z c := StableHlo.held (c : Thread nD τ) (Pipeline.ucRefs τ sig \ Pipeline.arrRefs (pcfgs (F := F) 0).spec) (W c)
  hentry c := by
    rw [Pipeline.ownSems0_none, Pipeline.prefHeld_of_none _ rfl, StableHlo.held_sub_split (c : Thread nD τ) (arrRefs_sub (F := F)) (W c),
      ← Pipeline.arrays_held (pcfgs (F := F)) adm (fdat W b) (p := 0) launch1.toP c (share_full W b c) ((fdat W b 0 c).arrAt · 0) (W c) (fun _ => rfl)]
    iintro ⟨⟨⟨Ha, Hz⟩, ⟨%Wt, %hW, HO⟩⟩, -, -⟩
    imodintro
    isplitl [Ha]; · iexact Ha
    isplitr; · iempintro
    isplitl [HO]
    · unfold Pipeline.Dat.owesAt Pipeline.owesWithin
      iexists Wt
      isplitr
      · ipureintro; exact fun p hp => Or.inl (hW p hp)
      iexact HO
    isplitr; · iempintro
    iexact Hz
  hin c := by
    iintro -
    dsimp only [fdat]; iempintro
  hout c := by
    rw [Pipeline.ownSems0_none, show Pipeline.scopedRest (Ix := HIx 1) (Name := ℕ) (U := UU) (Lvl := ℕ) (Val := Elt F) (Pipeline.pin (pcfgs (F := F)) adm 0).spec c = BI.emp from scopedRest1_eq c]
    iintro -
    isplitr; · iempintro
    isplitr <;> iempintro
  hexit c := by
    rw [StableHlo.held_sub_split (c : Thread nD τ) (arrRefs_sub (F := F)) (leftAt W b c),
      StableHlo.held_congr (c : Thread nD τ) (Pipeline.afterRegion_off (fdat W b 0 c) (W c) (Pipeline.ucRefs τ sig)),
      ← Pipeline.arrays_held (pcfgs (F := F)) adm (fdat W b) (p := 0) launch1.toP c (share_full W b c) ((fdat W b 0 c).arrAt · (Pipeline.pin (pcfgs (F := F)) adm 0).N) (leftAt W b c)
        (fun w => (Pipeline.afterRegion_arr (fdat W b 0 c) (W c) launch1.win.arr_inj w).symm)]
    iintro ⟨Ha, HO, -, Hz⟩
    imodintro
    isplitr [HO]
    · isplitl [Ha]; · iexact Ha
      iexact Hz
    unfold Pipeline.Dat.owesAt Pipeline.owesWithin
    icases HO with ⟨%Wt, %hW, HO⟩
    iexists Wt
    isplitr
    · ipureintro
      intro p hp
      rcases hW hp with h | ⟨w, s, h⟩
      · exact h
      · rw [h]; exact Nat.zero_le _
    iexact HO

end Cert.Proof.Hist

end
-- ==== Proof.Left.lean ====
/-
  What the finalize region leaves, in closed form.
-/
module

public import proofs.«01_k».proof.Proof.Region

@[expose] public section

noncomputable section

namespace Cert.Proof.Hist

open Cert.KernelIdeal Cert.KernelIdeal.Gen
open Idealize.ShloMosaic
open Idealize.ShloMosaic.TcCoe
open Idealize.ShloMosaic.ValueIdx
open Idealize.ShloMosaic.SparseCore.Cfg (HIx)
open Idealize.ShloMosaic.Pipeline (Dat BodyObligation)
open Idealize.SL Idealize.SL.Sem

variable {F : FTy → Type} [FloatOps F]

/-- One map of an array of sixteen. -/
def oneMap {n : ℕ} (X : FVec F ⟨3, ![16, n, 64800]⟩ .f32) (t : Fin 16) : FVec F ⟨3, ![1, n, 64800]⟩ .f32 := fun y => X (ix3 t (y 1) (y 2))

/-- Every map's three rows. -/
def finAll (X0 X1 : FVec F S16x2x64800 .f32) (X2 X3 : FVec F S1x64800 .f32) : FVec F S16x3x64800 .f32 := fun j =>
  finB (oneMap X0 (j 0)) (oneMap X1 (j 0)) X2 X3 (ix3 0 (j 1) (j 2))

theorem point_lt (t : Fin cfg1.N) : t.val < 16 := Nat.lt_of_lt_of_eq t.isLt N_1
abbrev pt16 (t : Fin cfg1.N) : Fin 16 := ⟨t.val, point_lt t⟩

theorem coord_eq (t : Fin cfg1.N) : (grid1.coords t 0).val = t.val := by
  rw [Pipeline.Grid.coords_val (G := grid1) t 0 (S := 1) (B := 16) (by decide) rfl, Nat.div_one, Nat.mod_eq_of_lt (point_lt t)]

theorem index_eq (t : Fin cfg1.N) : (BitVec.ofNat 32 (grid1.coords t 0).val).toNat = t.val := by
  rw [coord_eq, BitVec.toNat_ofNat, Nat.mod_eq_of_lt (by have := point_lt t; omega)]

/-- A block of one map, at its place in the array. -/
theorem emb_map {n : ℕ} (t : Fin cfg1.N) (f : Fin 3 → ℕ) (hf : f = ![(BitVec.ofNat 32 (grid1.coords t 0).val).toNat, 0, 0])
    (h : ∀ a, (f a + 1) * (![1, n, 64800] : Fin 3 → ℕ) a ≤ (⟨3, ![16, n, 64800]⟩ : Shape).size a) (y : (⟨3, ![1, n, 64800]⟩ : Shape).Idx) :
    (Rect.block (s := ⟨3, ![16, n, 64800]⟩) ![1, n, 64800] f h).emb y = ix3 (pt16 t) (y 1) (y 2) := by
  subst hf
  have e := index_eq t
  funext a
  apply Fin.ext
  have h0 : (y 0).val < 1 := (y 0).isLt
  match a with
  | 0 => show (BitVec.ofNat 32 (grid1.coords t 0).val).toNat * 1 + 1 * (y 0).val = t.val; omega
  | 1 => show 0 * n + 1 * (y 1).val = (y 1).val; omega
  | 2 => show 0 * 64800 + 1 * (y 2).val = (y 2).val; omega

variable (W : Dev nD → Valuation τ sig (Elt F)) (b : ℕ)

abbrev at4 (c : Dev nD) : FVec F S16x2x64800 .f32 := W c (Proc.devRef .tc main_v4)
abbrev at5 (c : Dev nD) : FVec F S16x2x64800 .f32 := W c (Proc.devRef .tc main_v5)
abbrev at6 (c : Dev nD) : FVec F S1x64800 .f32 := W c (Proc.devRef .tc main_v6)
abbrev at7 (c : Dev nD) : FVec F S1x64800 .f32 := W c (Proc.devRef .tc main_v7)

theorem blk0_eq (c : Dev nD) (t : Fin cfg1.N) : blkAt W c 0 t = oneMap (at4 W c) (pt16 t) :=
  funext fun y => congrArg (at4 W c) (emb_map t (cc1_transform_0 (grid1.coords t)) rfl (hinb1_0 _) y)
theorem blk1_eq (c : Dev nD) (t : Fin cfg1.N) : blkAt W c 1 t = oneMap (at5 W c) (pt16 t) :=
  funext fun y => congrArg (at5 W c) (emb_map t (cc1_transform_1 (grid1.coords t)) rfl (hinb1_1 _) y)

theorem emb_all (f : Fin 2 → ℕ) (hf : f = ![0, 0])
    (h : ∀ a, (f a + 1) * S1x64800.size a ≤ S1x64800.size a) (y : S1x64800.Idx) :
    (Rect.block (s := S1x64800) S1x64800.size f h).emb y = y := by
  subst hf
  funext a
  apply Fin.ext
  match a with
  | 0 => show 0 * 1 + 1 * (y 0).val = (y 0).val; omega
  | 1 => show 0 * 64800 + 1 * (y 1).val = (y 1).val; omega

theorem blk2_eq (c : Dev nD) (t : Fin cfg1.N) : blkAt W c 2 t = at6 W c :=
  funext fun y => congrArg (at6 W c) (emb_all (cc1_transform_2 (grid1.coords t)) rfl (hinb1_2 _) y)
theorem blk3_eq (c : Dev nD) (t : Fin cfg1.N) : blkAt W c 3 t = at7 W c :=
  funext fun y => congrArg (at7 W c) (emb_all (cc1_transform_3 (grid1.coords t)) rfl (hinb1_3 _) y)

/-- The result's array when the region is left. -/
theorem arr4 (c : Dev nD) : (fdat W b 0 c).arrAt 4 cfg1.N = finAll (at4 W c) (at5 W c) (at6 W c) (at7 W c) := by
  refine (fdat W b 0 c).arrAt_eq_of_cover 4 _ (fun t _ => ?_) fun i => ?_
  · funext y
    have e := emb_map t (cc1_transform_4 (grid1.coords t)) rfl (hinb1_4 _) y
    show finB (blkAt W c 0 t) (blkAt W c 1 t) (blkAt W c 2 t) (blkAt W c 3 t) y
      = finAll (at4 W c) (at5 W c) (at6 W c) (at7 W c) ((Rect.block (s := S16x3x64800) S1x3x64800.size (cc1_transform_4 (grid1.coords t)) (hinb1_4 _)).emb y)
    rw [show (Rect.block (s := S16x3x64800) S1x3x64800.size (cc1_transform_4 (grid1.coords t)) (hinb1_4 _)).emb y = _ from e, blk0_eq, blk1_eq, blk2_eq, blk3_eq]
    show _ = finB (oneMap (at4 W c) (pt16 t)) (oneMap (at5 W c) (pt16 t)) (at6 W c) (at7 W c) (ix3 0 (y 1) (y 2))
    congr 1
    funext a
    have h0 : (y 0).val < 1 := (y 0).isLt
    match a with
    | 0 => exact Fin.ext (show (y 0).val = 0 by omega)
    | 1 => rfl
    | 2 => rfl
  · have hi : (i 0).val < 16 := (i 0).isLt
    refine ⟨⟨(i 0).val, Nat.lt_of_lt_of_eq hi N_1.symm⟩, flush1_4 _, ?_⟩
    have e := emb_map (n := 3) ⟨(i 0).val, Nat.lt_of_lt_of_eq hi N_1.symm⟩ (cc1_transform_4 (grid1.coords _)) rfl (hinb1_4 _) (ix3 0 (i 1) (i 2))
    have := View.emb_mem_set ((cfg1.win 4).blk ⟨(i 0).val, Nat.lt_of_lt_of_eq hi N_1.symm⟩).view (ix3 0 (i 1) (i 2))
    rwa [show ((cfg1.win 4).blk ⟨(i 0).val, Nat.lt_of_lt_of_eq hi N_1.symm⟩).view.emb (ix3 0 (i 1) (i 2)) = i from e.trans (by
      funext a
      match a with
      | 0 => rfl
      | 1 => rfl
      | 2 => rfl)] at this

theorem left_v8 (c : Dev nD) : leftAt W b c (Proc.devRef .tc main_v8) = finAll (at4 W c) (at5 W c) (at6 W c) (at7 W c) :=
  (Pipeline.afterRegion_arr (fdat W b 0 c) (W c) launch1.win.arr_inj 4).trans (arr4 W b c)

/-- No other buffer is changed. -/
theorem left_keeps (c : Dev nD) (r : Ref sig .tc) (h : r ≠ main_v8) :
    leftAt W b c (Proc.devRef .tc r) = W c (Proc.devRef .tc r) :=
  Pipeline.afterRegion_keeps (fdat W b 0 c) (W c) launch1.win.arr_inj (fun _ => rfl) r fun w e => by
    match w with
    | 0 => rfl
    | 1 => rfl
    | 2 => rfl
    | 3 => rfl
    | 4 => exact absurd e.symm h

end Cert.Proof.Hist

end
-- ==== Proof.Main.lean ====
/-
  @main on the TensorCore: the reshapes, the SparseCore call, the finalize region, and what they leave.
-/
module

public import proofs.«01_k».proof.Proof.Call
public import proofs.«01_k».proof.Proof.Left

@[expose] public section

noncomputable section

namespace Cert.Proof.Hist

open Cert.KernelIdeal Cert.KernelIdeal.Gen
open Idealize.ShloMosaic
open Idealize.ShloMosaic.TcCoe
open Idealize.ShloMosaic.SparseCore (S V)
open Idealize.ShloMosaic.SparseCore.Cfg (HIx)
open Idealize.ShloMosaic.StableHlo (held held_split held_sub_split held_congr held_sdiff_result wp_hlo_within result_of_writes_ne)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations and the buffers' contents -/

abbrev op0 : HloOp τ sig (Elt F) := StableHlo.reshape main_arg0 main_v0 (rfl : (.f32 : EltTy) = .f32) shapeCasts_S16x524288_S8388608
abbrev op1 : HloOp τ sig (Elt F) := StableHlo.reshape main_arg1 main_v1 (rfl : (.f32 : EltTy) = .f32) shapeCasts_S16x524288_S8388608
abbrev op2 : HloOp τ sig (Elt F) := StableHlo.reshape main_arg2 main_v2 (rfl : (.f32 : EltTy) = .f32) shapeCasts_S16x524288_S8388608
abbrev op4 : HloOp τ sig (Elt F) := StableHlo.reshape main_v3_0 main_v4 (rfl : (.f32 : EltTy) = .f32) shapeCasts_S2073600_S16x2x64800
abbrev op5 : HloOp τ sig (Elt F) := StableHlo.reshape main_v3_1 main_v5 (rfl : (.f32 : EltTy) = .f32) shapeCasts_S2073600_S16x2x64800
abbrev op6 : HloOp τ sig (Elt F) := StableHlo.reshape main_arg3 main_v6 (rfl : (.f32 : EltTy) = .f32) shapeCasts_S64800_S1x64800
abbrev op7 : HloOp τ sig (Elt F) := StableHlo.reshape main_arg4 main_v7 (rfl : (.f32 : EltTy) = .f32) shapeCasts_S64800_S1x64800
abbrev op9 : HloOp τ sig (Elt F) := StableHlo.reshape main_v8 main_v9 (rfl : (.f32 : EltTy) = .f32) shapeCasts_S16x3x64800_S16x3x180x360

abbrev ref (r : Ref sig .tc) : DevRef τ sig := Proc.devRef .tc r

/-- The unscoped buffers of the TensorCore. -/
abbrev U0 : Finset (DevRef τ sig) := Pipeline.ucRefs τ sig

variable (m : (ℓ : Loc nD τ sig) → Buf (Elt F) ℓ)

def V0 (d : Dev nD) : Valuation τ sig (Elt F) := fun b => m (d, b)
/-- After the first three reshapes. -/
def V1 (d : Dev nD) : Valuation τ sig (Elt F) := op2.result (op1.result (op0.result (V0 m d)))

def flat0 (d : Dev nD) : FVec F S8388608 .f32 := V1 m d (ref main_v0)
def flat1 (d : Dev nD) : FVec F S8388608 .f32 := V1 m d (ref main_v1)
def flat2 (d : Dev nD) : FVec F S8388608 .f32 := V1 m d (ref main_v2)
def old0 (d : Dev nD) : FVec F S2073600 .f32 := V1 m d (ref main_v3_0)
def old1 (d : Dev nD) : FVec F S2073600 .f32 := V1 m d (ref main_v3_1)

/-- After the SparseCore call. -/
def V2 (d : Dev nD) : Valuation τ sig (Elt F) :=
  Function.update (Function.update (V1 m d) (ref main_v3_0) (outS (flat0 m d) (flat1 m d) (flat2 m d))) (ref main_v3_1) (outC (flat0 m d) (flat1 m d))
/-- After the four reshapes that follow. -/
def V3 (d : Dev nD) : Valuation τ sig (Elt F) := op7.result (op6.result (op5.result (op4.result (V2 m d))))
/-- The bound on the TensorCore's recorded waits after the call. -/
abbrev lim : ℕ := 8 * SparseCore.Cfg.Blocks.fst (Q := 1) (N := 1) 1
/-- After the finalize region. -/
def V4 (d : Dev nD) : Valuation τ sig (Elt F) := leftAt (V3 m) lim d
/-- At the end. -/
def V5 (d : Dev nD) : Valuation τ sig (Elt F) := op9.result (V4 m d)

theorem unscoped_held (d : Dev nD) : (unscopedBufs d (fun b => m ((SparseCore.T d).loc b)) : sProp 𝕄) = held (SparseCore.T d) U0 (V0 m d) :=
  Pipeline.unscopedBufs_held d (V0 m d)

/-! ## The call's five arrays among the unscoped buffers -/

abbrev S5 : Finset (DevRef τ sig) := {ref main_v0, ref main_v1, ref main_v2, ref main_v3_0, ref main_v3_1}

theorem S5_sub : S5 ⊆ U0 := by
  intro b hb
  refine Finset.mem_filter.mpr ?_
  simp only [S5, Finset.mem_insert, Finset.mem_singleton] at hb
  rcases hb with rfl | rfl | rfl | rfl | rfl <;> exact ⟨StableHlo.devRef_mem_tcRefs _, by decide⟩

theorem held_S5 (d : Dev nD) (W : Valuation τ sig (Elt F)) :
    (held (SparseCore.T d) S5 W : sProp 𝕄) = five d (W (ref main_v0)) (W (ref main_v1)) (W (ref main_v2)) (W (ref main_v3_0)) (W (ref main_v3_1)) := by
  unfold held S5 five
  rw [SparseCore.bigSep_insert' (by decide), SparseCore.bigSep_insert' (by decide), SparseCore.bigSep_insert' (by decide),
    SparseCore.bigSep_insert' (by decide), bigSep_singleton]

theorem V2_off (d : Dev nD) (b : DevRef τ sig) (h0 : b ≠ ref main_v3_0) (h1 : b ≠ ref main_v3_1) : V2 m d b = V1 m d b := by
  unfold V2; rw [Function.update_of_ne h1, Function.update_of_ne h0]
theorem V2_r0 (d : Dev nD) : V2 m d (ref main_v3_0) = outS (flat0 m d) (flat1 m d) (flat2 m d) := by
  unfold V2; rw [Function.update_of_ne (by decide), Function.update_self]
theorem V2_r1 (d : Dev nD) : V2 m d (ref main_v3_1) = outC (flat0 m d) (flat1 m d) := by
  unfold V2; rw [Function.update_self]

/-- Before the call. -/
theorem held_V1 (d : Dev nD) :
    (held (SparseCore.T d) U0 (V1 m d) : sProp 𝕄)
      = iprop(five d (flat0 m d) (flat1 m d) (flat2 m d) (old0 m d) (old1 m d) ∗ held (SparseCore.T d) (U0 \ S5) (V1 m d)) := by
  rw [held_sub_split (SparseCore.T d) S5_sub, held_S5]; rfl

/-- After the call. -/
theorem held_V2 (d : Dev nD) :
    (held (SparseCore.T d) U0 (V2 m d) : sProp 𝕄)
      = iprop(five d (flat0 m d) (flat1 m d) (flat2 m d) (outS (flat0 m d) (flat1 m d) (flat2 m d)) (outC (flat0 m d) (flat1 m d))
          ∗ held (SparseCore.T d) (U0 \ S5) (V1 m d)) := by
  rw [held_sub_split (SparseCore.T d) S5_sub, held_S5, V2_r0, V2_r1, V2_off m d (ref main_v0) (by decide) (by decide),
    V2_off m d (ref main_v1) (by decide) (by decide), V2_off m d (ref main_v2) (by decide) (by decide),
    held_congr (SparseCore.T d) (V := V2 m d) (V' := V1 m d) fun b hb => ?_]
  · rfl
  · have h := (Finset.mem_sdiff.mp hb).2
    exact V2_off m d b (fun e => h (by rw [e]; decide)) (fun e => h (by rw [e]; decide))

/-! ## The region inside @main -/

/-- The ghost state of the region's staging cells. -/
abbrev G (d : Dev nD) : sProp 𝕄 :=
  iprop(Pipeline.cellsGhost (Pipeline.pin (pcfgs (F := F)) adm) EP 0 d ∗ Pipeline.toksInit (Pipeline.pin (pcfgs (F := F)) adm) EP 0 d)

abbrev seg (W : Dev nD → Valuation τ sig (Elt F)) := reg W lim (K (F := F)).L (K (F := F)).lev

theorem region_seg [∀ e, Nonempty (Elt F e)] (W : Dev nD → Valuation τ sig (Elt F)) (d : Dev nD) (Φ : PUnit → sProp 𝕄) :
    iprop(((boundary (d : Thread nD τ) ∗ (seg W).post d) -∗ wp frame (wpE (Pipeline.defs (pcfgs (F := F)) (defs₀ (F := F))) 𝒱₀.lift (d : Thread nD τ) none) Set.univ (Prog.ret ⟨⟩) Φ)
        ∗ boundary (d : Thread nD τ) ∗ (seg W).pre d ∗ levAts (K (F := F)).L (K (F := F)).lev ∗ G d)
      ⊢ wp frame (wpE (Pipeline.defs (pcfgs (F := F)) (defs₀ (F := F))) 𝒱₀.lift (d : Thread nD τ) none) Set.univ
          (.op (.customCall (Pipeline.entry 0) ()) fun _ => Prog.ret ⟨⟩) Φ := by
  have h := (Pipeline.RegionSeg.wp (pcfgs (F := F)) adm (fdat W lim) (none : HIx 1) cellOf_inj EP (defs₀ (F := F)) 𝒱₀ (K (F := F)).L (K (F := F)).lev
      (seg W) d none (fun _ h => nomatch h) (fun _ => Prog.ret ⟨⟩) Φ)
  exact h

theorem lift_wp (d : Dev nD) (Φ : PUnit → sProp 𝕄) :
    wp frame (wpE (D (F := F)) 𝒱 (SparseCore.T d) none) Set.univ
          (.op (.customCall (Pipeline.entry 0) ()) fun _ => Prog.ret ⟨⟩) Φ
      ⊢ wp frame (wpE ((K (F := F)).defs (D (F := F))) 𝒱 (SparseCore.T d) none) Set.univ
          (Prog.lift (.customCall (SparseCore.inner (Pipeline.entry 0)) ())) Φ := by
  have h := (K (F := F)).wp_liftProg (Name := ℕ) (U := UU) (N := 1) (D (F := F)) 𝒱 (SparseCore.T d) Set.univ none (.op (.customCall (Pipeline.entry 0) ()) fun _ => Prog.ret ⟨⟩) Φ
  rw [SparseCore.liftProg_op] at h
  exact h

theorem seg_pre (W : Dev nD → Valuation τ sig (Elt F)) (d : Dev nD) :
    (seg W).pre d = iprop(held (SparseCore.T d) U0 (W d) ∗ owesB lim d) := rfl
theorem seg_post (W : Dev nD → Valuation τ sig (Elt F)) (d : Dev nD) :
    (seg W).post d = iprop(held (SparseCore.T d) U0 (leftAt W lim d) ∗ owesB lim d) := rfl

theorem region_wp [∀ e, Nonempty (Elt F e)] (W : Dev nD → Valuation τ sig (Elt F)) (d : Dev nD) (Φ : PUnit → sProp 𝕄) :
    iprop(((boundary (SparseCore.T d) ∗ held (SparseCore.T d) U0 (leftAt W lim d) ∗ owesB lim d) -∗ Φ ⟨⟩)
        ∗ boundary (SparseCore.T d) ∗ (held (SparseCore.T d) U0 (W d) ∗ owesB lim d) ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  refine BIBase.Entails.trans ?_ (lift_wp d Φ)
  refine BIBase.Entails.trans ?_ (region_seg W d Φ)
  rw [seg_pre, seg_post]
  iintro ⟨HK, Hb, Hp, Hl, HG⟩
  isplitl [HK]
  · iintro ⟨Hb, Hp⟩
    rw [wp_ret]; imodintro
    iapply HK
    isplitl [Hb]; · iexact Hb
    iexact Hp
  isplitl [Hb]; · iexact Hb
  isplitl [Hp]; · iexact Hp
  isplitl [Hl] <;> iassumption

/-! ## @main -/

/-- What the TensorCore keeps of the handshakes after the call, but for what it owes. -/
def tail1 (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_one (d : Dev nD) : ((K (F := F)).tcSt EH d 1 : sProp 𝕄) = iprop(owesB lim d ∗ tail1 d) := by
  unfold SparseCore.Cfg.tcSt
  rw [(K (F := F)).Otc_end d (le_refl 1)]
  rfl

theorem bufs_sub (x y : Ref sig .tc) (op : HloOp τ sig (Elt F)) (h : op.bufs = {ref x, ref y}) : op.bufs ⊆ U0 := by
  refine Pipeline.sub_ucRefs op fun b hb => ?_
  rw [h, Finset.mem_insert, Finset.mem_singleton] at hb
  rcases hb with rfl | rfl <;> exact StableHlo.devRef_mem_tcRefs _

/-- What @main leaves the claim: the unscoped buffers at their final contents. -/
abbrev FIN (d : Dev nD) : sProp 𝕄 := held (SparseCore.T d) U0 (V5 m d)

/-- The payloads of this launch's call. -/
abbrev PP : (K (F := F)).Pay (nD := nD) (Val := Elt F) (Name := ℕ) (U := UU) := P (flat0 m) (flat1 m) (flat2 m) (old0 m) (old1 m)

theorem hmain [∀ e, Nonempty (Elt F e)] (ρ : Dev nD → PrngReg) (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, HG⟩
  iapply (wp_hlo_within 𝒱 (SparseCore.T d) none Set.univ (op := op0) (S := U0) (bufs_sub main_arg0 main_v0 op0 rfl) (V := V0 m d)) $$ [Hb Hh]
  · isplitl [Hb] <;> iassumption
  iintro ⟨Hb, Hh⟩
  rw [wp_ret]; imodintro
  iapply (wp_hlo_within 𝒱 (SparseCore.T d) none Set.univ (op := op1) (S := U0) (bufs_sub main_arg1 main_v1 op1 rfl) (V := op0.result (V0 m d))) $$ [Hb Hh]
  · isplitl [Hb] <;> iassumption
  iintro ⟨Hb, Hh⟩
  rw [wp_ret]; imodintro
  iapply (wp_hlo_within 𝒱 (SparseCore.T d) none Set.univ (op := op2) (S := U0) (bufs_sub main_arg2 main_v2 op2 rfl) (V := op1.result (op0.result (V0 m d)))) $$ [Hb Hh]
  · isplitl [Hb] <;> iassumption
  iintro ⟨Hb, Hh⟩
  rw [wp_ret]; imodintro
  ihave H5 := (Entails.of_eq (show (held (SparseCore.T d) U0 (op2.result (op1.result (op0.result (V0 m d)))) : sProp 𝕄) = _ from held_V1 m d)) $$ Hh
  icases H5 with ⟨H5, Hrest⟩
  iapply ((K (F := F)).wp_run (D (F := F)) 𝒱 (EH := EH) (P := PP m) κ d 0) $$ [Hst H5 Hb Hts Hrest HG]
  isplitr; · iexact Hctx
  isplitl [Hst]; · iexact Hst
  isplitl [H5]; · rw [st_five]; iexact H5
  iintro ⟨Hst, Hdn⟩
  ihave H5 := (Entails.of_eq (dn_five (flat0 m) (flat1 m) (flat2 m) (old0 m) (old1 m) d)) $$ Hdn
  ihave Hh := (Entails.of_eq (held_V2 m d).symm) $$ [H5 Hrest]
  · isplitl [H5] <;> iassumption
  iapply (wp_hlo_within 𝒱 (SparseCore.T d) none Set.univ (op := op4) (S := U0) (bufs_sub main_v3_0 main_v4 op4 rfl) (V := V2 m d)) $$ [Hb Hh]
  · isplitl [Hb] <;> iassumption
  iintro ⟨Hb, Hh⟩
  rw [wp_ret]; imodintro
  iapply (wp_hlo_within 𝒱 (SparseCore.T d) none Set.univ (op := op5) (S := U0) (bufs_sub main_v3_1 main_v5 op5 rfl) (V := op4.result (V2 m d))) $$ [Hb Hh]
  · isplitl [Hb] <;> iassumption
  iintro ⟨Hb, Hh⟩
  rw [wp_ret]; imodintro
  iapply (wp_hlo_within 𝒱 (SparseCore.T d) none Set.univ (op := op6) (S := U0) (bufs_sub main_arg3 main_v6 op6 rfl) (V := op5.result (op4.result (V2 m d)))) $$ [Hb Hh]
  · isplitl [Hb] <;> iassumption
  iintro ⟨Hb, Hh⟩
  rw [wp_ret]; imodintro
  iapply (wp_hlo_within 𝒱 (SparseCore.T d) none Set.univ (op := op7) (S := U0) (bufs_sub main_arg4 main_v7 op7 rfl) (V := op6.result (op5.result (op4.result (V2 m d))))) $$ [Hb Hh]
  · isplitl [Hb] <;> iassumption
  iintro ⟨Hb, Hh⟩
  rw [wp_ret]; imodintro
  ihave Hst' := (Entails.of_eq (show ((K (F := F)).tcSt EH d ((0 : Fin 1).val + 1) : sProp 𝕄) = _ from tcSt_one d)) $$ Hst
  icases Hst' with ⟨HO, Htail⟩
  ihave Hh := (Entails.of_eq (show (held (SparseCore.T d) U0 (op7.result (op6.result (op5.result (op4.result (V2 m d))))) : sProp 𝕄) = held (SparseCore.T d) U0 (V3 m d) from rfl)) $$ Hh
  iapply (region_wp (V3 m) d _)
  isplitr [Hb Hh HO HG]
  · iintro ⟨Hb, Hh, HO⟩
    ihave Hh := (Entails.of_eq (show (held (SparseCore.T d) U0 (leftAt (V3 m) lim d) : sProp 𝕄) = held (SparseCore.T d) U0 (V4 m d) from rfl)) $$ Hh
    iapply (wp_hlo_within 𝒱 (SparseCore.T d) none Set.univ (op := op9) (S := U0) (bufs_sub main_v8 main_v9 op9 rfl) (V := V4 m d)) $$ [Hb Hh]
    · isplitl [Hb] <;> iassumption
    iintro ⟨Hb, Hh⟩
    rw [wp_ret]; imodintro; imodintro
    isplitl [HO Htail]
    · rw [tcSt_one]
      isplitl [HO] <;> iassumption
    isplitl [Hh]; · iexact Hh
    isplitl [Hb] <;> iassumption
  isplitl [Hb]; · iexact Hb
  isplitl [Hh HO]; · isplitl [Hh] <;> iassumption
  isplitr; · iapply ((K (F := F)).ctx_levAts κ); iexact Hctx
  iexact HG

end Cert.Proof.Hist

end
-- ==== Proof.Run.lean ====
/-
  The program's run: the launch's ghost state, what the memory reads at the end, and the run's theorem.
-/
module

public import proofs.«01_k».proof.Proof.Main

@[expose] public section

noncomputable section

namespace Cert.Proof.Hist

open Cert.KernelIdeal Cert.KernelIdeal.Gen
open Idealize.ShloMosaic
open Idealize.ShloMosaic.TcCoe
open Idealize.ShloMosaic.SparseCore (S V)
open Idealize.ShloMosaic.SparseCore.Cfg (HIx)
open Idealize.ShloMosaic.StableHlo (held result_of_writes_ne)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The final contents -/

/-- A map of points, flat. -/
abbrev flatOf (A : FVec F S16x524288 .f32) : FVec F S8388608 .f32 := shapeCast S8388608 A shapeCasts_S16x524288_S8388608

/-- The program's result, from its arguments. -/
def outV (A0 A1 A2 : FVec F S16x524288 .f32) (A3 A4 : FVec F S64800 .f32) : FVec F S16x3x180x360 .f32 :=
  shapeCast S16x3x180x360
    (finAll (shapeCast S16x2x64800 (outS (flatOf A0) (flatOf A1) (flatOf A2)) shapeCasts_S2073600_S16x2x64800)
      (shapeCast S16x2x64800 (outC (flatOf A0) (flatOf A1)) shapeCasts_S2073600_S16x2x64800)
      (shapeCast S1x64800 A3 shapeCasts_S64800_S1x64800) (shapeCast S1x64800 A4 shapeCasts_S64800_S1x64800))
    shapeCasts_S16x3x64800_S16x3x180x360

abbrev arg (r : Ref sig .tc) (d : Dev nD) : Buf (Elt F) ((SparseCore.T (τ := τ) d).loc r) := m ((SparseCore.T d).loc r)

theorem V1_keeps (d : Dev nD) (r : Ref sig .tc) (h0 : r ≠ main_v0) (h1 : r ≠ main_v1) (h2 : r ≠ main_v2) : V1 m d (ref r) = arg m r d := by
  unfold V1
  rw [result_of_writes_ne op2 _ main_v2 r rfl h2, result_of_writes_ne op1 _ main_v1 r rfl h1, result_of_writes_ne op0 _ main_v0 r rfl h0]
  rfl

theorem flat0_eq (d : Dev nD) : flat0 m d = flatOf (arg m main_arg0 d) := by
  unfold flat0 V1
  rw [result_of_writes_ne op2 _ main_v2 main_v0 rfl (by decide), result_of_writes_ne op1 _ main_v1 main_v0 rfl (by decide)]
  exact StableHlo.reshape_result main_arg0 main_v0 _ _ _ _ _
theorem flat1_eq (d : Dev nD) : flat1 m d = flatOf (arg m main_arg1 d) := by
  unfold flat1 V1
  rw [result_of_writes_ne op2 _ main_v2 main_v1 rfl (by decide)]
  refine (StableHlo.reshape_result main_arg1 main_v1 _ _ _ _ _).trans ?_
  rw [result_of_writes_ne op0 _ main_v0 main_arg1 rfl (by decide)]
  rfl
theorem flat2_eq (d : Dev nD) : flat2 m d = flatOf (arg m main_arg2 d) := by
  unfold flat2 V1
  refine (StableHlo.reshape_result main_arg2 main_v2 _ _ _ _ _).trans ?_
  rw [result_of_writes_ne op1 _ main_v1 main_arg2 rfl (by decide), result_of_writes_ne op0 _ main_v0 main_arg2 rfl (by decide)]
  rfl

theorem V2_keeps (d : Dev nD) (r : Ref sig .tc) (h0 : r ≠ main_v3_0) (h1 : r ≠ main_v3_1) : V2 m d (ref r) = V1 m d (ref r) :=
  V2_off m d (ref r) (fun e => h0 (Proc.devRef_injective _ e)) (fun e => h1 (Proc.devRef_injective _ e))

theorem V3_keeps (d : Dev nD) (r : Ref sig .tc) (h4 : r ≠ main_v4) (h5 : r ≠ main_v5) (h6 : r ≠ main_v6) (h7 : r ≠ main_v7) :
    V3 m d (ref r) = V2 m d (ref r) := by
  unfold V3
  rw [result_of_writes_ne op7 _ main_v7 r rfl h7, result_of_writes_ne op6 _ main_v6 r rfl h6, result_of_writes_ne op5 _ main_v5 r rfl h5,
    result_of_writes_ne op4 _ main_v4 r rfl h4]

theorem V3_v4 (d : Dev nD) : V3 m d (ref main_v4) = shapeCast S16x2x64800 (outS (flat0 m d) (flat1 m d) (flat2 m d)) shapeCasts_S2073600_S16x2x64800 := by
  unfold V3
  rw [result_of_writes_ne op7 _ main_v7 main_v4 rfl (by decide), result_of_writes_ne op6 _ main_v6 main_v4 rfl (by decide),
    result_of_writes_ne op5 _ main_v5 main_v4 rfl (by decide)]
  refine (StableHlo.reshape_result main_v3_0 main_v4 _ _ _ _ _).trans ?_
  rw [V2_r0]; rfl
theorem V3_v5 (d : Dev nD) : V3 m d (ref main_v5) = shapeCast S16x2x64800 (outC (flat0 m d) (flat1 m d)) shapeCasts_S2073600_S16x2x64800 := by
  unfold V3
  rw [result_of_writes_ne op7 _ main_v7 main_v5 rfl (by decide), result_of_writes_ne op6 _ main_v6 main_v5 rfl (by decide)]
  refine (StableHlo.reshape_result main_v3_1 main_v5 _ _ _ _ _).trans ?_
  rw [result_of_writes_ne op4 _ main_v4 main_v3_1 rfl (by decide), V2_r1]; rfl
theorem V3_v6 (d : Dev nD) : V3 m d (ref main_v6) = shapeCast S1x64800 (arg m main_arg3 d) shapeCasts_S64800_S1x64800 := by
  unfold V3
  rw [result_of_writes_ne op7 _ main_v7 main_v6 rfl (by decide)]
  refine (StableHlo.reshape_result main_arg3 main_v6 _ _ _ _ _).trans ?_
  rw [result_of_writes_ne op5 _ main_v5 main_arg3 rfl (by decide), result_of_writes_ne op4 _ main_v4 main_arg3 rfl (by decide),
    V2_keeps m d main_arg3 (by decide) (by decide), V1_keeps m d main_arg3 (by decide) (by decide) (by decide)]; rfl
theorem V3_v7 (d : Dev nD) : V3 m d (ref main_v7) = shapeCast S1x64800 (arg m main_arg4 d) shapeCasts_S64800_S1x64800 := by
  unfold V3
  refine (StableHlo.reshape_result main_arg4 main_v7 _ _ _ _ _).trans ?_
  rw [result_of_writes_ne op6 _ main_v6 main_arg4 rfl (by decide), result_of_writes_ne op5 _ main_v5 main_arg4 rfl (by decide),
    result_of_writes_ne op4 _ main_v4 main_arg4 rfl (by decide),
    V2_keeps m d main_arg4 (by decide) (by decide), V1_keeps m d main_arg4 (by decide) (by decide) (by decide)]; rfl

/-- The result the run leaves. -/
theorem V5_v9 (d : Dev nD) :
    V5 m d (ref main_v9) = outV (arg m main_arg0 d) (arg m main_arg1 d) (arg m main_arg2 d) (arg m main_arg3 d) (arg m main_arg4 d) := by
  unfold V5
  refine (StableHlo.reshape_result main_v8 main_v9 _ _ _ _ _).trans ?_
  unfold V4
  rw [left_v8, at4, at5, at6, at7, V3_v4, V3_v5, V3_v6, V3_v7, flat0_eq, flat1_eq, flat2_eq]
  rfl

/-- A buffer the program does not write ends as it began. -/
theorem V5_keeps (d : Dev nD) (r : Ref sig .tc)
    (h : r ∉ [main_v0, main_v1, main_v2, main_v3_0, main_v3_1, main_v4, main_v5, main_v6, main_v7, main_v8, main_v9]) :
    V5 m d (ref r) = arg m r d := by
  simp only [List.mem_cons, List.not_mem_nil, or_false, not_or] at h
  obtain ⟨h0, h1, h2, h30, h31, h4, h5, h6, h7, h8, h9⟩ := h
  unfold V5
  rw [result_of_writes_ne op9 _ main_v9 r rfl h9]
  unfold V4
  rw [left_keeps (V3 m) lim d r h8, V3_keeps m d r h4 h5 h6 h7, V2_keeps m d r h30 h31, V1_keeps m d r h0 h1 h2]

/-! ## The launch element -/

def u₀ : UU :=
  (initOf (K (F := F)).hsCells (K (F := F)).hsToks,
    (initOf (Pipeline.cells (nD := nD) (τ := τ) (Pipeline.pin (pcfgs (F := F)) adm) cellOf_inj) (Pipeline.launchToks (Pipeline.pin (pcfgs (F := F)) adm) cellOf_inj), 1))

theorem G_all :
    (iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => Pipeline.toksInit (Pipeline.pin (pcfgs (F := F)) adm) EP p c)) : sProp 𝕄)
      = bigSep Finset.univ fun d : Dev nD => G d := by
  rw [← bigSep_sep']
  refine bigSep_congr fun c _ => ?_
  rw [bigSep_univ_of_subsingleton (0 : Fin 1), bigSep_univ_of_subsingleton (0 : Fin 1)]

theorem all_emp {I : Type} (A : Finset I) : (bigSep A fun _ => iprop(emp)) = (iprop(emp) : sProp 𝕄) := bigSep_emp_const A

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair _ _) $$ Hu
  icases H with ⟨HH, HP⟩
  ihave HP := (Entails.of_eq (show (BI.own ((embR : Emb (UP × Counters) 𝕄) (initOf (Pipeline.cells (nD := nD) (τ := τ) (Pipeline.pin (pcfgs (F := F)) adm) cellOf_inj) (Pipeline.launchToks (Pipeline.pin (pcfgs (F := F)) adm) cellOf_inj), 1)) : sProp 𝕄)
    = BI.own (EP (initOf (Pipeline.cells (nD := nD) (τ := τ) (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) EP cellOf_inj) $$ HP with ⟨Hc, Ht⟩
  imodintro
  isplitl [HH]; · iexact HH
  isplitl [Hc Ht]
  · iapply (Entails.of_eq (G_all (F := F))) $$ [Hc Ht]
    isplitl [Hc] <;> iassumption
  unfold PP P; dsimp only
  rw [bigSep_congr fun (_ : Thread nD τ) _ => all_emp (Finset.univ : Finset (Fin 1)), all_emp]
  iempintro

/-! ## What the memory reads -/

theorem mem_U0 (r : Ref sig .tc) (h : (ref r).isScoped = false) : ref r ∈ U0 :=
  Finset.mem_filter.mpr ⟨StableHlo.devRef_mem_tcRefs r, by rw [h]; exact Bool.false_ne_true⟩

/-- Every unscoped buffer reads its final contents. -/
def fq (d : Dev nD) (s' : Phys nD τ sig (Elt F)) : Prop := ∀ r : Ref sig .tc, (ref r).isScoped = false → s'.mem.mem ((SparseCore.T d).loc r) = V5 m d (ref r)

theorem read_one (d : Dev nD) (s' : Phys nD τ sig (Elt F)) (r : Ref sig .tc) (h : (ref r).isScoped = false) :
    iprop(FIN m d ∗ SI s') ⊢ (⌜s'.mem.mem ((SparseCore.T d).loc r) = V5 m d (ref r)⌝ : sProp 𝕄) := by
  unfold FIN held
  rw [← Finset.insert_erase (mem_U0 r h), SparseCore.bigSep_insert' (Finset.notMem_erase _ _)]
  iintro ⟨⟨Hx, -⟩, HSI⟩
  ihave H := (SI_pointsTo_agree (st := s') (ℓ := (SparseCore.T d).loc r) (I := Finset.univ) (q := fullShare) (f := V5 m d (ref r))) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold fq
  exact (Laws.forall_intro fun r => (Laws.forall_intro fun h => read_one m d s' r h).trans Laws.pure_forall.2).trans Laws.pure_forall.2

/-! ## The run -/

/-- The five arguments unchanged, the result at its value, every semaphore at zero. -/
def QC : PUnit × MemSt nD τ sig (Elt F) → Prop := fun r =>
  (∀ d : Dev nD, ∀ b : Ref sig .tc, (ref b).isScoped = false → r.2.mem ((SparseCore.T d).loc b) = V5 m d (ref b)) ∧ r.2.sem = fun _ => 0

theorem run_main [∀ e, Nonempty (Elt F e)] (ρ : Dev nD → PrngReg) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (flat0 m) (flat1 m) (flat2 m) (old0 m) (old1 m) facts)
    (fun q _ => match q with | 0 => SparseCore.Cfg.VecSplit.of_plain (vecSplit (flat0 m) (flat1 m) (flat2 m) (old0 m) (old1 m)))
    m ρ main G (FIN m) (u₀ (F := F)) (sep_elim_left.trans (hu₀ m)) (hmain m ρ) (fq m) (hfin m) (QC m) (fun _ h hz => ⟨h, hz⟩)

end Cert.Proof.Hist

end
-- ==== Proof.Frames.lean ====
/-
  The frames of the two programs of the kernel: the same run, at either reading of the floats.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof.Hist

open Idealize.ShloMosaic Idealize.ShloMosaic.TcCoe Idealize.SL Idealize.SL.Sem

/-- What the run leaves: the result at its value, the five arguments as they were, every semaphore at zero. -/
theorem run_reads {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : QC m r) (d : Dev Cert.KernelIdeal.nD) :
    r.2.mem ((SparseCore.T d).loc Cert.KernelIdeal.main_v9)
        = outV (arg m Cert.KernelIdeal.main_arg0 d) (arg m Cert.KernelIdeal.main_arg1 d) (arg m Cert.KernelIdeal.main_arg2 d)
            (arg m Cert.KernelIdeal.main_arg3 d) (arg m Cert.KernelIdeal.main_arg4 d)
      ∧ r.2.mem ((SparseCore.T d).loc Cert.KernelIdeal.main_arg0) = arg m Cert.KernelIdeal.main_arg0 d
      ∧ r.2.mem ((SparseCore.T d).loc Cert.KernelIdeal.main_arg1) = arg m Cert.KernelIdeal.main_arg1 d
      ∧ r.2.mem ((SparseCore.T d).loc Cert.KernelIdeal.main_arg2) = arg m Cert.KernelIdeal.main_arg2 d
      ∧ r.2.mem ((SparseCore.T d).loc Cert.KernelIdeal.main_arg3) = arg m Cert.KernelIdeal.main_arg3 d
      ∧ r.2.mem ((SparseCore.T d).loc Cert.KernelIdeal.main_arg4) = arg m Cert.KernelIdeal.main_arg4 d :=
  ⟨(h.1 d _ rfl).trans (V5_v9 m d), (h.1 d _ rfl).trans (V5_keeps m d _ (by decide)), (h.1 d _ rfl).trans (V5_keeps m d _ (by decide)),
    (h.1 d _ rfl).trans (V5_keeps m d _ (by decide)), (h.1 d _ rfl).trans (V5_keeps m d _ (by decide)), (h.1 d _ rfl).trans (V5_keeps m d _ (by decide))⟩

/-- The program runs, keeps its arguments and ends quiescent, at either reading of the floats. -/
theorem frame_any {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r =>
      (∀ d : Dev Cert.KernelIdeal.nD, r.2.mem ((SparseCore.T d).loc Cert.KernelIdeal.main_arg0) = arg m Cert.KernelIdeal.main_arg0 d
        ∧ r.2.mem ((SparseCore.T d).loc Cert.KernelIdeal.main_arg1) = arg m Cert.KernelIdeal.main_arg1 d
        ∧ r.2.mem ((SparseCore.T d).loc Cert.KernelIdeal.main_arg2) = arg m Cert.KernelIdeal.main_arg2 d
        ∧ r.2.mem ((SparseCore.T d).loc Cert.KernelIdeal.main_arg3) = arg m Cert.KernelIdeal.main_arg3 d
        ∧ r.2.mem ((SparseCore.T d).loc Cert.KernelIdeal.main_arg4) = arg m Cert.KernelIdeal.main_arg4 d)
      ∧ r.2.sem = fun _ => 0) :=
  (θ_run Cert.KernelIdeal.defs _ _).mono (fun r h => ⟨fun c => (run_reads m r h c).2, h.2⟩) (run_main m ρ)

/-- The idealization runs, keeps its arguments and ends quiescent. -/
theorem frame_kernelIdeal : Cert.quiescent_KernelIdeal := fun m ρ _ => frame_any (F := Ideal) m ρ

section Same

variable {F : FTy → Type} [FloatOps F]

/-- The two programs' kernels are one text, label by label. -/
theorem bodies_eq : @Cert.Kernel.defs₀ F _ _ = @Cert.KernelIdeal.defs₀ F _ _ := by
  funext p ℓ a
  match p, ℓ, a with
  | .tc, 0, _ => rfl
  | .tc, 1, _ => rfl
  | .scVector _ _, 0, _ => rfl
  | .scVector _ _, 1, _ => rfl
  | .scScalar _, 0, _ => rfl
  | .scScalar _, 1, _ => rfl

/-- So are their tables of calls. -/
theorem table_eq : @Cert.Kernel.defs F _ _ = @Cert.KernelIdeal.defs F _ _ :=
  congrArg (fun t => (Cert.KernelIdeal.sc (F := F)).defs (Pipeline.defs Cert.KernelIdeal.pcfgs t)) bodies_eq

end Same

/-- The kernel runs, keeps its arguments and ends quiescent. -/
theorem frame_kernel : Cert.quiescent_Kernel := fun m ρ _ => by
  have h := frame_any (F := Bits) m ρ
  rw [← table_eq] at h
  exact h

/-- The reference runs, keeps its arguments and, having no semaphore, ends quiescent. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Hist

end
-- ==== Proof.Sums.lean ====
/-
  A tile's histogram over the extended reals: each entry is the sum of the values of the run's points that fall in it, and
  the runs of two tiles, one after the other, add up to the sum over both.
-/
module

public import proofs.«01_k».proof.Proof.Steps
public import Idealize.ShloMosaic.PureOps.Ideal

@[expose] public section

noncomputable section

namespace Cert.Proof.Hist

open Cert.KernelIdeal Cert.KernelIdeal.Gen
open Idealize.ShloMosaic
open scoped BigOperators

/-- The sum of the values of the points of a run that fall at place `q`. -/
def total (p : ℕ → ℕ) (v : ℕ → EReal) (a n q : ℕ) : EReal := ∑ k ∈ Finset.range n, if q = p (a + k) then v (a + k) else 0

/-- A run's sum over the extended reals, from the points before it on. -/
theorem hist_total (z : Vec Ideal S64800 .f32) (p : ℕ → ℕ) (v : ℕ → Ideal .f32) (j : S64800.Idx) : ∀ n : ℕ,
    hist z p v n j = z j + ∑ k ∈ Finset.range n, if (j 0).val = p k then v k else (0 : EReal)
  | 0 => by rw [Finset.range_zero, Finset.sum_empty]; exact (add_zero (z j : EReal)).symm
  | n + 1 => by
      rw [Finset.sum_range_succ, ← add_assoc (z j : EReal), ← hist_total z p v j n]
      show bump (hist z p v n) (p n) (v n) j = _
      unfold bump
      by_cases h : (j 0).val = p n
      · rw [if_pos h, if_pos h]; rfl
      · rw [if_neg h, if_neg h]; exact (add_zero (hist z p v n j : EReal)).symm

/-- The table starts at zero. -/
theorem zeroF_ideal : (zeroF : Ideal .f32) = (0 : EReal) := by
  show Ideal.ofBits .f32 0x00000000#32 = 0
  simp [Ideal.ofBits, Ideal.ieee]

/-- Two runs one after the other. -/
theorem total_add (p : ℕ → ℕ) (v : ℕ → EReal) (a n k q : ℕ) : total p v a n q + total p v (a + n) k q = total p v a (n + k) q := by
  unfold total
  rw [Finset.sum_range_add]
  simp only [Nat.add_assoc]

/-- The pixel of point `n`. -/
def pixN (X Y : ℕ → Ideal .f32) (n : ℕ) : ℕ := (pixW (X n) (Y n)).toNat

/-- A tile's sum at a place. -/
theorem sumH_total (X Y Z : ℕ → Ideal .f32) (a n : ℕ) (j : S64800.Idx) : sumH X Y Z a n j = total (pixN X Y) Z a n (j 0).val := by
  unfold sumH
  rw [hist_total]
  show (zeroF (F := Ideal) : EReal) + _ = _
  rw [zeroF_ideal]
  exact zero_add _

/-- A tile's count at a place. -/
theorem cntH_total (X Y : ℕ → Ideal .f32) (a n : ℕ) (j : S64800.Idx) : cntH X Y a n j = total (pixN X Y) (fun _ => oneF (F := Ideal)) a n (j 0).val := by
  unfold cntH
  rw [hist_total]
  show (zeroF (F := Ideal) : EReal) + _ = _
  rw [zeroF_ideal]
  exact zero_add _

/-- Of a sum over `N` numbers, a part outside which every term is zero. -/
theorem sum_window (f : ℕ → EReal) (a M N : ℕ) (h : a + M ≤ N) (hz : ∀ n, n < N → ¬ (a ≤ n ∧ n < a + M) → f n = 0) :
    ∑ n ∈ Finset.range N, f n = ∑ k ∈ Finset.range M, f (a + k) := by
  have e : ∑ n ∈ Finset.Ico a (a + M), f n = ∑ n ∈ Finset.range N, f n := by
    refine Finset.sum_subset (fun n hn => ?_) fun n hn hm => ?_
    · have := Finset.mem_Ico.1 hn
      exact Finset.mem_range.2 (by omega)
    · exact hz n (Finset.mem_range.1 hn) fun hh => hm (Finset.mem_Ico.2 hh)
  rw [← e, Finset.sum_Ico_eq_sum_range, Nat.add_sub_cancel_left]

end Cert.Proof.Hist
-- ==== Proof.OutK.lean ====
/-
  The kernel's result at an index: the two grids in the first two rows, and in the third the two tiles' sums over the two
  tiles' counts, or over one.
-/
module

public import proofs.«01_k».proof.Proof.Run
public import proofs.«01_k».proof.Proof.Sums
public import Idealize.ShloMosaic.Lib.Pipeline.Value
public import Idealize.ShloMosaic.Lib.ValueLayout

@[expose] public section

noncomputable section

namespace Cert.Proof.Hist

open Cert.KernelIdeal Cert.KernelIdeal.Gen
open Idealize.ShloMosaic Idealize.ShloMosaic.ValueIdx

section Any

variable {F : FTy → Type} [FloatOps F]

/-- A row as a map of one row and one plane. -/
theorem cast_row (x : FVec F S1x64800 .f32) (h : S1x64800.ShapeCasts S1x1x64800) (q : Fin 64800) :
    shapeCast S1x1x64800 x h (ix3 0 0 q) = x (ix2 0 q) :=
  shapeCast_apply x h _ _ (by rw [Shape.rowMajor_val_two, Shape.rowMajor_val_three]; rfl)

/-- And back. -/
theorem cast_plane (x : FVec F S1x1x64800 .f32) (h : S1x1x64800.ShapeCasts S1x64800) (q : Fin 64800) :
    shapeCast S1x64800 x h (ix2 0 q) = x (ix3 0 0 q) :=
  shapeCast_apply x h _ _ (by rw [Shape.rowMajor_val_two, Shape.rowMajor_val_three]; rfl)

/-- A row cast to itself. -/
theorem cast_same (x : FVec F S1x64800 .f32) (h : S1x64800.ShapeCasts S1x64800) (q : Fin 64800) :
    shapeCast S1x64800 x h (ix2 0 q) = x (ix2 0 q) := shapeCast_apply x h _ _ rfl

theorem pay1_at (x : FVec F S1x64800 .f32) (q : Fin 64800) : k1_pay1 x (ix3 0 0 q) = x (ix2 0 q) := by
  unfold k1_pay1
  rw [cast_row, cast_same]

theorem pay2_at (x : FVec F S1x64800 .f32) (q : Fin 64800) : k1_pay2 x (ix3 0 0 q) = x (ix2 0 q) := by
  unfold k1_pay2
  rw [cast_row, cast_same]

theorem pay3_at (s0 s1 c0 c1 : FVec F S1x1x64800 .f32) (q : Fin 64800) : k1_pay3 s0 s1 c0 c1 (ix3 0 0 q)
    = FloatOps.divf (FloatOps.addf (s0 (ix3 0 0 q)) (s1 (ix3 0 0 q)))
        (FloatOps.maximumf (FloatOps.addf (c0 (ix3 0 0 q)) (c1 (ix3 0 0 q))) oneF) := by
  unfold k1_pay3
  rw [cast_row, ← cast_plane s0 shapeCasts_S1x1x64800_S1x64800 q, ← cast_plane s1 shapeCasts_S1x1x64800_S1x64800 q,
    ← cast_plane c0 shapeCasts_S1x1x64800_S1x64800 q, ← cast_plane c1 shapeCasts_S1x1x64800_S1x64800 q]
  rfl

/-- The pixel of an index of the result. -/
def pixOf (j : S16x3x180x360.Idx) : Fin 64800 := ⟨(j 2).val * 360 + (j 3).val, by
  have h2 : (j 2).val < 180 := (j 2).isLt
  have h3 : (j 3).val < 360 := (j 3).isLt
  omega⟩

/-- A row of the two tiles of a map, in the flat tables. -/
def tileIx (b : Fin 16) (s : Fin 2) (q : Fin 64800) : S2073600.Idx := ix1 ⟨(b.val * 2 + s.val) * 64800 + q.val, by omega⟩

theorem cast_tiles (X : FVec F S2073600 .f32) (h : S2073600.ShapeCasts S16x2x64800) (b : Fin 16) (s : Fin 2) (q : Fin 64800) :
    shapeCast S16x2x64800 X h (ix3 b s q) = X (tileIx b s q) :=
  shapeCast_apply X h _ _ (by rw [Shape.rowMajor_val_one, Shape.rowMajor_val_three]; rfl)

theorem cast_grid (A : FVec F S64800 .f32) (h : S64800.ShapeCasts S1x64800) (q : Fin 64800) :
    shapeCast S1x64800 A h (ix2 0 q) = A (ix1 q) := shapeCast_a_1a_apply A h 0 q

variable (A0 A1 A2 : FVec F S16x524288 .f32) (A3 A4 : FVec F S64800 .f32) (j : S16x3x180x360.Idx)

/-- The result's index among the maps' rows. -/
theorem outV_at : outV A0 A1 A2 A3 A4 j
    = finAll (shapeCast S16x2x64800 (outS (flatOf A0) (flatOf A1) (flatOf A2)) shapeCasts_S2073600_S16x2x64800)
      (shapeCast S16x2x64800 (outC (flatOf A0) (flatOf A1)) shapeCasts_S2073600_S16x2x64800)
      (shapeCast S1x64800 A3 shapeCasts_S64800_S1x64800) (shapeCast S1x64800 A4 shapeCasts_S64800_S1x64800) (ix3 (j 0) (j 1) (pixOf j)) := by
  unfold outV
  refine shapeCast_apply _ _ _ _ ?_
  rw [Shape.rowMajor_val_three, Shape.rowMajor_val_four]
  show ((j 0).val * 3 + (j 1).val) * 64800 + ((j 2).val * 360 + (j 3).val) = (((j 0).val * 3 + (j 1).val) * 180 + (j 2).val) * 360 + (j 3).val
  omega

/-- The first row is the first grid. -/
theorem outV_row0 (h : (j 1).val = 0) : outV A0 A1 A2 A3 A4 j = A3 (ix1 (pixOf j)) := by
  rw [outV_at]
  exact (if_pos h).trans ((pay1_at _ _).trans (cast_grid A3 _ _))

/-- The second row is the second grid. -/
theorem outV_row1 (h : (j 1).val = 1) : outV A0 A1 A2 A3 A4 j = A4 (ix1 (pixOf j)) := by
  rw [outV_at]
  exact (if_neg (fun e => by have e' : (j 1).val = 0 := e; omega)).trans ((if_pos h).trans ((pay2_at _ _).trans (cast_grid A4 _ _)))

/-- The third row is the mean, from the two tiles' tables. -/
theorem outV_row2 (h : (j 1).val = 2) : outV A0 A1 A2 A3 A4 j
    = FloatOps.divf (FloatOps.addf (outS (flatOf A0) (flatOf A1) (flatOf A2) (tileIx (j 0) 0 (pixOf j)))
          (outS (flatOf A0) (flatOf A1) (flatOf A2) (tileIx (j 0) 1 (pixOf j))))
        (FloatOps.maximumf (FloatOps.addf (outC (flatOf A0) (flatOf A1) (tileIx (j 0) 0 (pixOf j)))
          (outC (flatOf A0) (flatOf A1) (tileIx (j 0) 1 (pixOf j)))) oneF) := by
  rw [outV_at]
  refine (if_neg (fun e => by have e' : (j 1).val = 0 := e; omega)).trans ((if_neg (fun e => by have e' : (j 1).val = 1 := e; omega)).trans ?_)
  refine (pay3_at _ _ _ _ _).trans ?_
  rw [← cast_tiles (outS (flatOf A0) (flatOf A1) (flatOf A2)) shapeCasts_S2073600_S16x2x64800 (j 0) 0 (pixOf j),
    ← cast_tiles (outS (flatOf A0) (flatOf A1) (flatOf A2)) shapeCasts_S2073600_S16x2x64800 (j 0) 1 (pixOf j),
    ← cast_tiles (outC (flatOf A0) (flatOf A1)) shapeCasts_S2073600_S16x2x64800 (j 0) 0 (pixOf j),
    ← cast_tiles (outC (flatOf A0) (flatOf A1)) shapeCasts_S2073600_S16x2x64800 (j 0) 1 (pixOf j)]
  rfl

end Any

/-! ## Over the extended reals -/

variable (x0 x1 x2 : FVec Ideal S8388608 .f32) (b : Fin 16) (q : Fin 64800)

/-- A tile's place in the flat tables names its run of points and its pixel. -/
theorem tileIx_run (s : Fin 2) : 262144 * ((tileIx b s q 0).val / 64800) = 524288 * b.val + 262144 * s.val
    ∧ (tabIx (tileIx b s q 0).val 0).val = q.val := by
  have hq := q.isLt
  have e : (tileIx b s q 0).val = (b.val * 2 + s.val) * 64800 + q.val := rfl
  have e2 : (tabIx (tileIx b s q 0).val 0).val = (tileIx b s q 0).val % 64800 := rfl
  rw [e2, e]
  constructor <;> omega

/-- The two tiles' sums of a map add up to the sum over its points. -/
theorem outS_both : ((outS x0 x1 x2 (tileIx b 0 q) : EReal) + outS x0 x1 x2 (tileIx b 1 q))
    = total (pixN (natX x0) (natX x1)) (natX x2) (524288 * b.val) 524288 q.val := by
  have e0 := tileIx_run b q 0
  have e1 := tileIx_run b q 1
  unfold outS
  rw [sumH_total, sumH_total, e0.1, e0.2, e1.1, e1.2]
  exact total_add _ _ (524288 * b.val) 262144 262144 q.val

/-- So do their counts. -/
theorem outC_both : ((outC x0 x1 (tileIx b 0 q) : EReal) + outC x0 x1 (tileIx b 1 q))
    = total (pixN (natX x0) (natX x1)) (fun _ => oneF (F := Ideal)) (524288 * b.val) 524288 q.val := by
  have e0 := tileIx_run b q 0
  have e1 := tileIx_run b q 1
  unfold outC
  rw [cntH_total, cntH_total, e0.1, e0.2, e1.1, e1.2]
  exact total_add _ _ (524288 * b.val) 262144 262144 q.val

end Cert.Proof.Hist
-- ==== Proof.RefTerm.lean ====
/-
  The reference's result, in named steps: the pixel of every point, moved by its map's number, the two scatter-additions
  and the mean.
-/
module

public import proofs.«01_k».proof.Proof.Gen.ReferenceIdeal.Run

@[expose] public section

noncomputable section

namespace Cert.Proof.Ref

open Cert.ReferenceIdeal Cert.ReferenceIdeal.Gen
open Idealize.ShloMosaic Idealize.ShloMosaic.TcCoe

variable {F : FTy → Type} [FloatOps F]

/-- An angle of each point in units `u`, times `k`, cut to an integer and clamped between zero and `hi`. -/
def binR (A : FVec F S16x524288 .f32) (u k hi : BitVec 32) : IVec S16x524288 32 :=
  minsi (broadcastInDim S16x524288 ![] bcast_S_S16x524288 (id (constantI S_ 32 hi)))
    (maxsi (broadcastInDim S16x524288 ![] bcast_S_S16x524288 (id (constantI S_ 32 0#32)))
      (fptosi 32 (mulf (Host.divf A (broadcastInDim S16x524288 ![] bcast_S_S16x524288 (constant S_ .f32 u)))
        (broadcastInDim S16x524288 ![] bcast_S_S16x524288 (constant S_ .f32 k)))))

/-- Each map's first place in the tables of all maps. -/
def offR : IVec S16x524288 32 :=
  broadcastInDim S16x524288 ![0, 1] bcast_S16x1_S16x524288_0_1
    (muli (broadcastInDim S16x1 ![0] bcast_S16_S16x1_0 (iotaInDim S16 32 0)) (broadcastInDim S16x1 ![] bcast_S_S16x1 (constantI S_ 32 64800#32)))

/-- Each point's place. -/
def placeR (A0 A1 : FVec F S16x524288 .f32) : IVec S16x524288 32 :=
  addi (addi (muli (binR A0 0x40490FDB#32 0x43340000#32 179#32) (broadcastInDim S16x524288 ![] bcast_S_S16x524288 (constantI S_ 32 360#32)))
    (binR A1 0x40C90FDB#32 0x43B40000#32 359#32)) offR

/-- The same, flat. -/
def flatR (A0 A1 : FVec F S16x524288 .f32) : IVec S8388608 32 := shapeCast S8388608 (placeR A0 A1) shapeCasts_S16x524288_S8388608

/-- The list of places the scatter-additions take: a negative one would count from the end. -/
def listR (A0 A1 : FVec F S16x524288 .f32) : IVec S8388608x1 32 :=
  broadcastInDim S8388608x1 ![0] bcast_S8388608_S8388608x1_0
    (select (cmpi .slt (flatR A0 A1) (broadcastInDim S8388608 ![] bcast_S_S8388608 (constantI S_ 32 0#32)))
      (addi (flatR A0 A1) (broadcastInDim S8388608 ![] bcast_S_S8388608 (constantI S_ 32 1036800#32))) (flatR A0 A1))

/-- The values `U` of the points, added up by place. -/
def addR (A0 A1 : FVec F S16x524288 .f32) (U : FVec F S8388608 .f32) : FVec F S1036800 .f32 :=
  Host.scatterAdd scatter_S1036800_S8388608x1_S8388608_n_0_0_1
    (broadcastInDim S1036800 ![] bcast_S_S1036800 (constant S_ .f32 0x00000000#32)) (listR A0 A1) U

/-- The means of all maps. -/
def meanR (A0 A1 A2 : FVec F S16x524288 .f32) : FVec F S1036800 .f32 :=
  Host.divf (addR A0 A1 (shapeCast S8388608 A2 shapeCasts_S16x524288_S8388608))
    (maximumf (broadcastInDim S1036800 ![] bcast_S_S1036800 (id (constant S_ .f32 0x3F800000#32)))
      (addR A0 A1 (broadcastInDim S8388608 ![] bcast_S_S8388608 (constant S_ .f32 0x3F800000#32))))

/-- A grid, for every map. -/
def gridR (A : FVec F S64800 .f32) : FVec F S16x1x180x360 .f32 :=
  broadcastInDim S16x1x180x360 ![0, 2, 3] bcast_S16x180x360_S16x1x180x360_0_2_3
    (broadcastInDim S16x180x360 ![0, 1, 2] bcast_S1x180x360_S16x180x360_0_1_2
      (broadcastInDim S1x180x360 ![1, 2] bcast_S180x360_S1x180x360_1_2 (shapeCast S180x360 A shapeCasts_S64800_S180x360)))

/-- The means, map by map. -/
def mapR (A0 A1 A2 : FVec F S16x524288 .f32) : FVec F S16x1x180x360 .f32 :=
  broadcastInDim S16x1x180x360 ![0, 2, 3] bcast_S16x180x360_S16x1x180x360_0_2_3
    (shapeCast S16x180x360 (meanR A0 A1 A2) shapeCasts_S1036800_S16x180x360)

/-- The reference's result. -/
def outR (A0 A1 A2 : FVec F S16x524288 .f32) (A3 A4 : FVec F S64800 .f32) : FVec F S16x3x180x360 .f32 :=
  concatenate S16x3x180x360 1 [⟨S16x1x180x360, gridR A3⟩, ⟨S16x1x180x360, gridR A4⟩, ⟨S16x1x180x360, mapR A0 A1 A2⟩]
    concatenates_S16x1x180x360_S16x1x180x360_S16x1x180x360_S16x3x180x360_d1

/-- It is the printed one. -/
theorem res_eq (m : (ℓ : Loc nD τ sig) → Buf (Elt F) ℓ) (c : Dev nD) :
    Value.res_out0 m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.Proof.Ref
-- ==== Proof.RefPlace.lean ====
/-
  The places of the reference's points: each is its pixel, moved by 64800 for each map before its own.
-/
module

public import proofs.«01_k».proof.Proof.RefTerm
public import proofs.«01_k».proof.Proof.Index
public import Idealize.ShloMosaic.Lib.Pipeline.Value
public import Idealize.ShloMosaic.Lib.Pointwise.Index
public import Idealize.ShloMosaic.Lib.Routing.OpsPair

@[expose] public section

noncomputable section

namespace Cert.Proof.Ref

open Cert.ReferenceIdeal Cert.ReferenceIdeal.Gen Cert.Proof.Hist
open Idealize.ShloMosaic Idealize.ShloMosaic.TcCoe
open scoped BigOperators

variable (A0 A1 : FVec Ideal S16x524288 .f32)

/-- Over the extended reals a point's row is the kernel's. -/
theorem binR_row (i : S16x524288.Idx) : binR A0 0x40490FDB#32 0x43340000#32 179#32 i = rowW (A0 i) := rfl

/-- So is its column. -/
theorem binR_col (i : S16x524288.Idx) : binR A1 0x40C90FDB#32 0x43B40000#32 359#32 i = colW (A1 i) := rfl

/-- The move of a point, by its map. -/
theorem offR_apply (i : S16x524288.Idx) : offR i = IntOp.muli (BitVec.ofNat 32 (i 0).val) 64800#32 := rfl

/-- A point's place, as a number. -/
theorem placeR_toNat (i : S16x524288.Idx) : (placeR A0 A1 i).toNat = (pixW (A0 i) (A1 i)).toNat + 64800 * (i 0).val := by
  have hi : (i 0).val < 16 := (i 0).isLt
  have hp := pixW_lt (A0 i) (A1 i)
  have e : placeR A0 A1 i = IntOp.addi (pixW (A0 i) (A1 i)) (offR i) := rfl
  rw [e, offR_apply]
  generalize pixW (A0 i) (A1 i) = w at hp ⊢
  simp only [IntOp.addi, IntOp.muli, BitVec.toNat_add, BitVec.toNat_mul, BitVec.toNat_ofNat]
  omega

/-- The place of point `n` of all, as a number. -/
theorem flatR_toNat (j : S8388608.Idx) : (flatR A0 A1 j).toNat
    = (pixW ((shapeCast S8388608 A0 shapeCasts_S16x524288_S8388608 : FVec Ideal S8388608 .f32) j)
        ((shapeCast S8388608 A1 shapeCasts_S16x524288_S8388608 : FVec Ideal S8388608 .f32) j)).toNat + 64800 * ((j 0).val / 524288) := by
  have h := Shape.rowMajor_reshapeEquiv (s := S16x524288) (s' := S8388608) shapeCasts_S16x524288_S8388608 j
  rw [Shape.rowMajor_val_two, Shape.rowMajor_val_one] at h
  have e : (flatR A0 A1 j).toNat = _ := placeR_toNat A0 A1 (Shape.reshapeEquiv shapeCasts_S16x524288_S8388608 j)
  rw [e]
  have hk : (Shape.reshapeEquiv (s := S16x524288) (s' := S8388608) shapeCasts_S16x524288_S8388608 j 1).val < 524288 := Fin.isLt _
  have h' : (Shape.reshapeEquiv (s := S16x524288) (s' := S8388608) shapeCasts_S16x524288_S8388608 j 0).val * 524288
      + (Shape.reshapeEquiv (s := S16x524288) (s' := S8388608) shapeCasts_S16x524288_S8388608 j 1).val = (j 0).val := h
  have hb : (Shape.reshapeEquiv (s := S16x524288) (s' := S8388608) shapeCasts_S16x524288_S8388608 j 0).val = (j 0).val / 524288 := by omega
  rw [hb]
  rfl

/-- No place is negative, so the list holds the places. -/
theorem listR_apply (j : S8388608.Idx) : listR A0 A1 (ix2 (j 0) (0 : Fin 1)) = flatR A0 A1 j := by
  have e : listR A0 A1 (ix2 (j 0) (0 : Fin 1)) = (select (cmpi .slt (flatR A0 A1) (broadcastInDim S8388608 ![] bcast_S_S8388608 (constantI S_ 32 0#32)))
      (addi (flatR A0 A1) (broadcastInDim S8388608 ![] bcast_S_S8388608 (constantI S_ 32 1036800#32))) (flatR A0 A1)) j := by
    unfold listR
    refine broadcastInDim_apply _ _ _ _ j fun a => ?_
    obtain rfl : a = 0 := Subsingleton.elim _ _
    rfl
  rw [e]
  have hl : (flatR A0 A1 j).toNat < 2 ^ 31 := by
    rw [flatR_toNat]
    have hp := pixW_lt ((shapeCast S8388608 A0 shapeCasts_S16x524288_S8388608 : FVec Ideal S8388608 .f32) j)
        ((shapeCast S8388608 A1 shapeCasts_S16x524288_S8388608 : FVec Ideal S8388608 .f32) j)
    have hj : (j 0).val < 8388608 := (j 0).isLt
    omega
  have hc : BitVec.slt (flatR A0 A1 j) 0#32 = false := by
    rw [BitVec.slt, BitVec.toInt_eq_toNat_of_lt (by omega)]
    simp
  show Scalar.select (BitVec.ofBool (BitVec.slt (flatR A0 A1 j) 0#32)) _ _ = _
  rw [hc]
  rfl

/-! ## Where a point's value lands -/

/-- Point `j` of all lands at place `i` exactly when its place is `i`. -/
theorem lands (idx : IVec S8388608x1 32) (j : S8388608.Idx) (i : S1036800.Idx) :
    scatter_S1036800_S8388608x1_S8388608_n_0_0_1.resultIdx? j idx = some i ↔ (idx (ix2 (j 0) (0 : Fin 1))).toInt = ((i 0).val : Int) := by
  have hw : scatter_S1036800_S8388608x1_S8388608_n_0_0_1.window j 0 = 0 := by
    unfold ScatterDims.window
    exact dif_neg fun h => absurd (List.mem_filter.1 h).2 (by decide)
  have hs : scatter_S1036800_S8388608x1_S8388608_n_0_0_1.start j idx 0 = (idx (ix2 (j 0) (0 : Fin 1))).toInt := by
    unfold ScatterDims.start
    refine (dif_pos (List.mem_singleton.2 rfl)).trans (congrArg (fun k => (idx k).toInt) (funext fun b => ?_))
    match b with
    | 0 =>
      refine (dif_neg (by exact Nat.zero_ne_one)).trans (Fin.ext ?_)
      show (j _).val = (j 0).val
      congr 1
    | 1 =>
      refine (dif_pos rfl).trans (Fin.ext ?_)
      rfl
  rw [Routing.resultIdx?_eq_some]
  constructor
  · intro h
    have h0 := h 0
    rw [hs, hw] at h0
    simpa using h0
  · intro h a
    obtain rfl : a = 0 := Subsingleton.elim _ _
    rw [hs, hw, h]
    simp

end Cert.Proof.Ref
-- ==== Proof.RefSum.lean ====
/-
  The reference's scatter-addition, over the extended reals, at one place: the sum over the points of that place's map
  whose pixel is that place's.
-/
module

public import proofs.«01_k».proof.Proof.RefPlace
public import proofs.«01_k».proof.Proof.Sums
public import proofs.«01_k».proof.Proof.Launch

@[expose] public section

noncomputable section

namespace Cert.Proof.Ref

open Cert.ReferenceIdeal Cert.ReferenceIdeal.Gen Cert.Proof.Hist
open Idealize.ShloMosaic Idealize.ShloMosaic.TcCoe
open scoped BigOperators

variable (A0 A1 : FVec Ideal S16x524288 .f32)

/-- A map of points, flat. -/
abbrev flat (A : FVec Ideal S16x524288 .f32) : FVec Ideal S8388608 .f32 := shapeCast S8388608 A shapeCasts_S16x524288_S8388608

/-- Point `j` lands at place `64800 b + q` exactly when it is map `b`'s and its pixel is `q`. -/
theorem lands_iff (j : S8388608.Idx) (i : S1036800.Idx) :
    scatter_S1036800_S8388608x1_S8388608_n_0_0_1.resultIdx? j (listR A0 A1) = some i
      ↔ (i 0).val = (pixW (flat A0 j) (flat A1 j)).toNat + 64800 * ((j 0).val / 524288) := by
  rw [lands, listR_apply]
  have hp := pixW_lt (flat A0 j) (flat A1 j)
  have hj : (j 0).val < 8388608 := (j 0).isLt
  have e := flatR_toNat A0 A1 j
  change (flatR A0 A1 j).toNat = (pixW (flat A0 j) (flat A1 j)).toNat + _ at e
  rw [BitVec.toInt_eq_toNat_of_lt (by omega), e]
  omega

/-- A scatter-addition over the extended reals at one place. -/
theorem scatterAdd_at {s si su : Shape} (d : ScatterDims s si su) (x : FVec Ideal s .f32) (idx : IVec si 32) (u : FVec Ideal su .f32) (i : s.Idx) :
    (Host.scatterAdd d x idx u i : EReal) = x i + ∑ j ∈ Finset.univ.filter (fun j => d.resultIdx? j idx = some i), (u j : EReal) := rfl

/-- A sum over the indices of an array of one axis, by number. -/
theorem sum_flat {N : ℕ} (g : (⟨1, ![N]⟩ : Shape).Idx → EReal) (f : ℕ → EReal) (h : ∀ n : Fin N, g (ix1 n) = f n.val) :
    ∑ j, g j = ∑ n ∈ Finset.range N, f n := by
  rw [Finset.sum_range, sum_idx1]
  exact Finset.sum_congr rfl fun n _ => h n

/-- The value that point `n` brings to place `i`. -/
def bring (U : FVec Ideal S8388608 .f32) (i : S1036800.Idx) (n : ℕ) : EReal :=
  if (i 0).val = pixN (natX (flat A0)) (natX (flat A1)) n + 64800 * (n / 524288) then natX U n else 0

/-- A flat index by its number. -/
theorem ix1_flatIx (n : Fin 8388608) : (ix1 n : S8388608.Idx) = flatIx n.val := by
  funext a
  obtain rfl : a = 0 := Subsingleton.elim _ _
  exact Fin.ext (Nat.mod_eq_of_lt n.isLt).symm

/-- The sum at a place, over all points. -/
theorem addR_sum (U : FVec Ideal S8388608 .f32) (i : S1036800.Idx) :
    (addR A0 A1 U i : EReal) = ∑ n ∈ Finset.range 8388608, bring A0 A1 U i n := by
  unfold addR
  rw [scatterAdd_at, Finset.sum_filter]
  refine Eq.trans (congrArg₂ (· + ·) (show _ = (0 : EReal) from zeroF_ideal) (sum_flat _ (bring A0 A1 U i) fun n => ?_)) (zero_add _)
  rw [ix1_flatIx]
  refine if_congr ((lands_iff A0 A1 _ i).trans ?_) rfl rfl
  have hn : (flatIx n.val 0).val = n.val := Nat.mod_eq_of_lt n.isLt
  rw [hn]
  exact Iff.rfl

/-- The sum at place `64800 b + q`. -/
theorem addR_total (U : FVec Ideal S8388608 .f32) (i : S1036800.Idx) (b q : ℕ) (hb : b < 16) (hq : q < 64800) (hi : (i 0).val = 64800 * b + q) :
    (addR A0 A1 U i : EReal) = total (pixN (natX (flat A0)) (natX (flat A1))) (natX U) (524288 * b) 524288 q := by
  have hp : ∀ n, pixN (natX (flat A0)) (natX (flat A1)) n < 64800 := fun n => pixW_lt _ _
  rw [addR_sum, sum_window (bring A0 A1 U i) (524288 * b) 524288 8388608 (by omega) fun n hn hh => ?_]
  · refine Finset.sum_congr rfl fun k hk => if_congr ?_ rfl rfl
    have hk' := Finset.mem_range.1 hk
    rw [hi, show (524288 * b + k) / 524288 = b by omega]
    constructor <;> intro h <;> omega
  · refine if_neg fun h => hh ?_
    have := hp n
    omega

end Cert.Proof.Ref
-- ==== Proof.RefOut.lean ====
/-
  The reference's result at an index, row by row.
-/
module

public import proofs.«01_k».proof.Proof.RefSum
public import Idealize.ShloMosaic.Lib.Pipeline.Value

@[expose] public section

noncomputable section

namespace Cert.Proof.Ref

open Cert.ReferenceIdeal Cert.ReferenceIdeal.Gen Cert.Proof.Hist
open Idealize.ShloMosaic

/-- The index of row `j 1` alone. -/
def oneRow (j : S16x3x180x360.Idx) : S16x1x180x360.Idx := ValueIdx.ix4 (j 0) 0 (j 2) (j 3)

/-- The pixel of an index. -/
def pixR (j : S16x3x180x360.Idx) : Fin 64800 := ⟨(j 2).val * 360 + (j 3).val, by
  have h2 : (j 2).val < 180 := (j 2).isLt
  have h3 : (j 3).val < 360 := (j 3).isLt
  omega⟩

/-- The place of an index in the tables of all maps. -/
def placeIx (j : S16x3x180x360.Idx) : S1036800.Idx := ValueIdx.ix1 ⟨64800 * (j 0).val + (pixR j).val, by
  have h0 : (j 0).val < 16 := (j 0).isLt
  have := (pixR j).isLt
  omega⟩

/-- The index of a map's plane. -/
def planeIx (j : S16x3x180x360.Idx) : S16x180x360.Idx := ValueIdx.ix3 (n0 := 16) (n1 := 180) (n2 := 360) (j 0) (j 2) (j 3)

/-- The index of the one plane of a grid. -/
def planeIx1 (j : S16x3x180x360.Idx) : S1x180x360.Idx := ValueIdx.ix3 (n0 := 1) (n1 := 180) (n2 := 360) 0 (j 2) (j 3)

/-- The index of a grid. -/
def gridIx (j : S16x3x180x360.Idx) : S180x360.Idx := ValueIdx.ix2 (n0 := 180) (n1 := 360) (j 2) (j 3)

section Any

variable {F : FTy → Type} [FloatOps F] (A A3 A4 : FVec F S64800 .f32) (A0 A1 A2 : FVec F S16x524288 .f32) (j : S16x3x180x360.Idx)

/-- A grid does not depend on the map. -/
theorem gridR_at : gridR A (oneRow j) = A (ValueIdx.ix1 (pixR j)) := by
  unfold gridR
  refine (broadcastInDim_apply _ _ _ (oneRow j) (planeIx j) (by intro a; fin_cases a <;> rfl)).trans ?_
  refine (broadcastInDim_apply _ _ _ _ (planeIx1 j) (by intro a; fin_cases a <;> rfl)).trans ?_
  refine (broadcastInDim_apply _ _ _ _ (gridIx j) (by intro a; fin_cases a <;> rfl)).trans ?_
  refine shapeCast_apply _ _ _ _ ?_
  rw [Shape.rowMajor_val_one, Shape.rowMajor_val_two]
  rfl

/-- The means of a map are at its places. -/
theorem mapR_at : mapR A0 A1 A2 (oneRow j) = meanR A0 A1 A2 (placeIx j) := by
  unfold mapR
  refine (broadcastInDim_apply _ _ _ (oneRow j) (planeIx j) (by intro a; fin_cases a <;> rfl)).trans ?_
  refine shapeCast_apply _ _ _ _ ?_
  rw [Shape.rowMajor_val_one, Shape.rowMajor_val_three]
  show 64800 * (j 0).val + ((j 2).val * 360 + (j 3).val) = ((j 0).val * 180 + (j 2).val) * 360 + (j 3).val
  omega

theorem off_axis (b : Fin 4) (hb : b ≠ 1) : (oneRow j b).val = (j b).val := by
  fin_cases b
  · rfl
  · exact absurd rfl hb
  · rfl
  · rfl

/-- The first row is the first grid. -/
theorem outR_row0 (h : (j 1).val = 0) : outR A0 A1 A2 A3 A4 j = A3 (ValueIdx.ix1 (pixR j)) := by
  unfold outR
  refine (concatenate_apply_piece 1 [⟨S16x1x180x360, gridR A3⟩, ⟨S16x1x180x360, gridR A4⟩, ⟨S16x1x180x360, mapR A0 A1 A2⟩] _ j 0
    (show 0 < 3 by norm_num) S16x1x180x360 (gridR A3) rfl rfl 0 rfl (oneRow j) (fun b hb => off_axis j b hb) ?_).trans (gridR_at A3 j)
  exact h.symm

/-- The second row is the second grid. -/
theorem outR_row1 (h : (j 1).val = 1) : outR A0 A1 A2 A3 A4 j = A4 (ValueIdx.ix1 (pixR j)) := by
  unfold outR
  refine (concatenate_apply_piece 1 [⟨S16x1x180x360, gridR A3⟩, ⟨S16x1x180x360, gridR A4⟩, ⟨S16x1x180x360, mapR A0 A1 A2⟩] _ j 1
    (show 1 < 3 by norm_num) S16x1x180x360 (gridR A4) rfl rfl 1 rfl (oneRow j) (fun b hb => off_axis j b hb) ?_).trans (gridR_at A4 j)
  exact h.symm

/-- The third row is the means. -/
theorem outR_row2 (h : (j 1).val = 2) : outR A0 A1 A2 A3 A4 j = meanR A0 A1 A2 (placeIx j) := by
  unfold outR
  refine (concatenate_apply_piece 1 [⟨S16x1x180x360, gridR A3⟩, ⟨S16x1x180x360, gridR A4⟩, ⟨S16x1x180x360, mapR A0 A1 A2⟩] _ j 2
    (show 2 < 3 by norm_num) S16x1x180x360 (mapR A0 A1 A2) rfl rfl 2 rfl (oneRow j) (fun b hb => off_axis j b hb) ?_).trans (mapR_at A0 A1 A2 j)
  exact h.symm

end Any

variable (A0 A1 A2 : FVec Ideal S16x524288 .f32) (j : S16x3x180x360.Idx)

/-- A quotient of two arrays at one place, the second bounded below by a constant. -/
theorem quot_at {s : Shape} (h : (⟨0, ![]⟩ : Shape).BroadcastsInDim s ![]) (x y : FVec Ideal s .f32) (w : BitVec 32) (i : s.Idx) :
    Host.divf x (maximumf (broadcastInDim s ![] h (id (constant ⟨0, ![]⟩ .f32 w))) y) i
      = Ideal.div (x i) (max (Scalar.ofBits (F := Ideal) .f32 w : EReal) (y i)) := rfl

/-- The list of ones, by number. -/
theorem natX_ones {N : ℕ} (h : (⟨0, ![]⟩ : Shape).BroadcastsInDim ⟨1, ![N]⟩ ![]) (w : BitVec 32) (i : (⟨1, ![N]⟩ : Shape).Idx) :
    broadcastInDim ⟨1, ![N]⟩ ![] h (constant (F := Ideal) ⟨0, ![]⟩ .f32 w) i = Scalar.ofBits (F := Ideal) .f32 w := rfl

/-- The mean at a place: the sum of its points' values over their count, or over one. -/
theorem meanR_at : meanR A0 A1 A2 (placeIx j)
    = Ideal.div (total (pixN (natX (flat A0)) (natX (flat A1))) (natX (flat A2)) (524288 * (j 0).val) 524288 (pixR j).val)
        (max (oneF (F := Ideal) : EReal) (total (pixN (natX (flat A0)) (natX (flat A1))) (fun _ => oneF (F := Ideal)) (524288 * (j 0).val) 524288 (pixR j).val)) := by
  unfold meanR
  refine (quot_at _ _ _ _ _).trans ?_
  have h0 : (j 0).val < 16 := (j 0).isLt
  rw [addR_total A0 A1 _ (placeIx j) (j 0).val (pixR j).val h0 (pixR j).isLt rfl,
    addR_total A0 A1 _ (placeIx j) (j 0).val (pixR j).val h0 (pixR j).isLt rfl]
  have e : natX (broadcastInDim S8388608 ![] bcast_S_S8388608 (constant (F := Ideal) S_ .f32 0x3F800000#32)) = fun _ => oneF (F := Ideal) :=
    funext fun n => natX_ones _ _ _
  rw [e]
  rfl

end Cert.Proof.Ref
-- ==== Proof.Equal.lean ====
/-
  The kernel's result is the reference's, over the extended reals, and with it the value claim.
-/
module

public import proofs.«01_k».proof.Proof.Frames
public import proofs.«01_k».proof.Proof.OutK
public import proofs.«01_k».proof.Proof.RefOut

@[expose] public section

noncomputable section

namespace Cert.Proof.Hist

open Idealize.ShloMosaic Idealize.ShloMosaic.TcCoe Idealize.SL Idealize.SL.Sem

section Values

variable (A0 A1 A2 : FVec Ideal Cert.KernelIdeal.S16x524288 .f32) (A3 A4 : FVec Ideal Cert.KernelIdeal.S64800 .f32)

/-- The third row: the two tiles' sums over their counts are the mean over the map's points. -/
theorem mean_eq (j : Cert.KernelIdeal.S16x3x180x360.Idx) (h : (j 1).val = 2) :
    (outV A0 A1 A2 A3 A4 j : EReal) = Ref.outR A0 A1 A2 A3 A4 j := by
  refine Eq.trans ?_ ((Ref.outR_row2 A3 A4 A0 A1 A2 j h).trans (Ref.meanR_at A0 A1 A2 j)).symm
  refine (outV_row2 A0 A1 A2 A3 A4 j h).trans ?_
  refine congrArg₂ Ideal.div (outS_both (flatOf A0) (flatOf A1) (flatOf A2) (j 0) (pixOf j)) ?_
  exact (congrArg (fun t : EReal => max t (oneF (F := Ideal))) (outC_both (flatOf A0) (flatOf A1) (j 0) (pixOf j))).trans (max_comm _ _)

/-- The two results are one array. -/
theorem out_eq : outV A0 A1 A2 A3 A4 = Ref.outR A0 A1 A2 A3 A4 := by
  funext j
  have h3 : (j 1).val < 3 := (j 1).isLt
  by_cases h0 : (j 1).val = 0
  · exact (outV_row0 A0 A1 A2 A3 A4 j h0).trans (Ref.outR_row0 A3 A4 A0 A1 A2 j h0).symm
  by_cases h1 : (j 1).val = 1
  · exact (outV_row1 A0 A1 A2 A3 A4 j h1).trans (Ref.outR_row1 A3 A4 A0 A1 A2 j h1).symm
  exact mean_eq A0 A1 A2 A3 A4 j (by omega)

end Values

/-- Started from the same arguments, the idealized kernel and the reference leave one result. -/
theorem algebraic : Cert.algebraic_KernelIdeal_ReferenceIdeal := by
  intro m g m' g' _ ha
  refine ⟨fun c => outV (F := Ideal) (arg m Cert.KernelIdeal.main_arg0 c) (arg m Cert.KernelIdeal.main_arg1 c) (arg m Cert.KernelIdeal.main_arg2 c)
    (arg m Cert.KernelIdeal.main_arg3 c) (arg m Cert.KernelIdeal.main_arg4 c), ?_, ?_⟩
  · exact (θ_run Cert.KernelIdeal.defs _ _).mono (fun r h c => run_reads m r h c) (run_main (F := Ideal) m g)
  · refine (θ_run Cert.ReferenceIdeal.defs _ _).mono (fun r h c => ⟨(h c).1.trans ?_, (h c).2⟩) (Cert.ReferenceIdeal.Value.run (F := Ideal) m' g')
    obtain ⟨e0, e1, e2, e3, e4⟩ := ha c
    refine (Ref.res_eq m' c).trans ?_
    rw [e0, e1, e2, e3, e4]
    exact (out_eq _ _ _ _ _).symm

end Cert.Proof.Hist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Hist.frame_kernel, Hist.frame_kernelIdeal,
    Hist.frame_reference, trivial, Hist.algebraic⟩

end Cert.Proof

end
